-- ==== Defs.lean ====
def Pre_Kernel [hPre_index_in_range : Cert.Pre_index_in_range.Facts] (m : (ℓ : Loc Cert.Kernel.nD Cert.Kernel.τ Cert.Kernel.sig) → Buf (Elt Bits) ℓ) : Prop :=
  ∀ c : Dev Cert.Kernel.nD,
    (Cert.Pre_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_index_in_range : Cert.Pre_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_index_in_range : Cert.Pre_index_in_range.Facts) (hPre_well_posed : Cert.Pre_well_posed.Facts),
    quiescent_Kernel (hKernel := hKernel) (hPre_index_in_range := hPre_index_in_range)
    ∧ quiescent_KernelIdeal (hKernelIdeal := hKernelIdeal) (hPre_index_in_range := hPre_index_in_range)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_index_in_range.lean ====
abbrev S1024x128 : Shape := ⟨2, ![1024, 128]⟩
abbrev S1024 : Shape := ⟨1, ![1024]⟩
abbrev S100000x128 : Shape := ⟨2, ![100000, 128]⟩
abbrev S2 : Shape := ⟨1, ![2]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x128 .f32) (main_arg1 : IVec S1024 32) (main_arg2 : FVec F S100000x128 .f32) (main_arg3 : FVec F S2 .f32) (main_arg4 : IVec S100000 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_well_posed.lean ====
abbrev S1024x128 : Shape := ⟨2, ![1024, 128]⟩
abbrev S1024 : Shape := ⟨1, ![1024]⟩
abbrev S100000x128 : Shape := ⟨2, ![100000, 128]⟩
abbrev S2 : Shape := ⟨1, ![2]⟩
abbrev S100000 : Shape := ⟨1, ![100000]⟩
abbrev S_ : Shape := ⟨0, ![]⟩
abbrev S1 : Shape := ⟨1, ![1]⟩

class Facts : Prop where
  bcast_S_S1024 : S_.BroadcastsInDim S1024 (![] : Fin 0 → Fin S1024.rank)
  reducesTo_S1024_S_d0 : S1024.ReducesTo [0] S_
  h_S_ : 0 < S_.numel
  bcast_S_S100000 : S_.BroadcastsInDim S100000 (![] : Fin 0 → Fin S100000.rank)
  reducesTo_S100000_S_d0 : S100000.ReducesTo [0] S_
  slices_S2_S1_0 : S2.Slices ![0] S1
  shapeCasts_S1_S_ : S1.ShapeCasts S_

variable [Facts]

def fn {F : FTy → Type} [FloatOps F] (main_arg0 : FVec F S1024x128 .f32) (main_arg1 : IVec S1024 32) (main_arg2 : FVec F S100000x128 .f32) (main_arg3 : FVec F S2 .f32) (main_arg4 : IVec S100000 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S100000 32 := broadcastInDim S100000 ![] bcast_S_S100000 main_c_2
  let main_v7 : IVec S100000 1 := cmpi .slt main_arg4 main_v6
  let main_c_3 : IVec S_ 1 := constantI S_ 1 1#1
  let main_v8 : IVec S_ 1 := (fun x v => Host.reduce IntOp.andi x v reducesTo_S100000_S_d0 h_S_) main_v7 main_c_3
  let main_v9 : IVec S_ 1 := andi main_v5 main_v8
  let main_v10 : FVec F S1 .f32 := (extractStridedSlice S1 ![0] · slices_S2_S1_0) main_arg3
  let main_v11 : FVec F S_ .f32 := shapeCast S_ main_v10 shapeCasts_S1_S_
  let main_cst : FVec F S_ .f32 := constant S_ .f32 0x00000000#32
  let main_v12 : IVec S_ 1 := cmpf .ogt main_v11 main_cst
  let main_v13 : IVec S_ 1 := andi main_v9 main_v12
  main_v13
-- ==== Kernel.lean ====
abbrev S1024x128 : Shape := ⟨2, ![1024, 128]⟩
abbrev S1024 : Shape := ⟨1, ![1024]⟩
abbrev S100000x128 : Shape := ⟨2, ![100000, 128]⟩
abbrev S2 : Shape := ⟨1, ![2]⟩
abbrev S100000 : Shape := ⟨1, ![100000]⟩
abbrev S4096x128 : Shape := ⟨2, ![4096, 128]⟩
abbrev S1024x1 : Shape := ⟨2, ![1024, 1]⟩
abbrev S1 : Shape := ⟨1, ![1]⟩
abbrev S1024x4096 : Shape := ⟨2, ![1024, 4096]⟩
abbrev S32 : Shape := ⟨1, ![32]⟩
abbrev S32x128 : Shape := ⟨2, ![32, 128]⟩
abbrev S_ : Shape := ⟨0, ![]⟩
abbrev S1x2 : Shape := ⟨2, ![1, 2]⟩
abbrev S2048x128 : Shape := ⟨2, ![2048, 128]⟩
abbrev S1024x2048 : Shape := ⟨2, ![1024, 2048]⟩
abbrev S1x1024x1 : Shape := ⟨3, ![1, 1024, 1]⟩
abbrev S1x1x1 : Shape := ⟨3, ![1, 1, 1]⟩
abbrev S1x1 : Shape := ⟨2, ![1, 1]⟩

abbrev nBuf : Table → Nat
  | .hbm => 11
  | .local .tc .vmem => 17
  | .local .tc .smem => 2
  | .local .scVector .vmem => 2
  | _ => 0

abbrev bufTy : (tb : Table) → Fin (nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S2, .f32⟩
  | .hbm, ⟨4, _⟩ => ⟨S100000, .i32⟩
  | .hbm, ⟨5, _⟩ => ⟨S1024x128, .f32⟩
  | .hbm, ⟨6, _⟩ => ⟨S1024x128, .f32⟩
  | .hbm, ⟨7, _⟩ => ⟨S1024x128, .bf16⟩
  | .hbm, ⟨8, _⟩ => ⟨S1024x128, .f32⟩
  | .hbm, ⟨9, _⟩ => ⟨S1x2, .f32⟩
  | .hbm, ⟨10, _⟩ => ⟨S2, .f32⟩
  | .local .tc .vmem, ⟨0, _⟩ => ⟨S1024x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S4096x128, .f32⟩
  | .local .tc .vmem, ⟨5, _⟩ => ⟨S4096x128, .f32⟩
  | .local .tc .vmem, ⟨6, _⟩ => ⟨S4096x128, .f32⟩
  | .local .tc .vmem, ⟨7, _⟩ => ⟨S4096x128, .f32⟩
  | .local .tc .vmem, ⟨8, _⟩ => ⟨S4096x128, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .bf16⟩
  | .local .tc .vmem, ⟨12, _⟩ => ⟨S1024x128, .f32⟩
  | .local .tc .vmem, ⟨13, _⟩ => ⟨S1024x128, .f32⟩
  | .local .tc .vmem, ⟨14, _⟩ => ⟨S1024x128, .bf16⟩
  | .local .tc .vmem, ⟨15, _⟩ => ⟨S2048x128, .f32⟩
  | .local .tc .vmem, ⟨16, _⟩ => ⟨S1024x128, .f32⟩
  | .local .tc .smem, ⟨0, _⟩ => ⟨S2, .f32⟩
  | .local .tc .smem, ⟨1, _⟩ => ⟨S1x2, .f32⟩
  | .local .scVector .vmem, ⟨0, _⟩ => ⟨S32, .i32⟩
  | .local .scVector .vmem, ⟨1, _⟩ => ⟨S32x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg2_scv : Ref sig .scVector := ⟨.hbm, 2, rfl⟩
abbrev main_arg1_scv : Ref sig .scVector := ⟨.hbm, 1, rfl⟩
abbrev main_v1_scv : Ref sig .scVector := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc0_stg0_0 : Ref sig .tc := ⟨.smem, 0, rfl⟩
abbrev cc2_stg5_0 : Ref sig .tc := ⟨.smem, 1, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c48_i32 : BitVec 32 := 48#32
  let c0_i32 : BitVec 32 := 0#32
  let c0_i32_0 : BitVec 32 := 0#32
  ![c48_i32.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .smem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1024x128 : Shape := ⟨2, ![1024, 128]⟩
abbrev S1024 : Shape := ⟨1, ![1024]⟩
abbrev S100000x128 : Shape := ⟨2, ![100000, 128]⟩
abbrev S2 : Shape := ⟨1, ![2]⟩
abbrev S100000 : Shape := ⟨1, ![100000]⟩
abbrev S1 : Shape := ⟨1, ![1]⟩
abbrev S_ : Shape := ⟨0, ![]⟩
abbrev S1024x1 : Shape := ⟨2, ![1024, 1]⟩
abbrev S128x100000 : Shape := ⟨2, ![128, 100000]⟩
abbrev S1024x100000 : Shape := ⟨2, ![1024, 100000]⟩
abbrev S1024x2 : Shape := ⟨2, ![1024, 2]⟩

abbrev nBuf : Space → Nat
  | .hbm => 83
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S2, .f32⟩
  | .hbm, ⟨4, _⟩ => ⟨S100000, .i32⟩
  | .hbm, ⟨5, _⟩ => ⟨S1, .f32⟩
  | .hbm, ⟨6, _⟩ => ⟨S_, .f32⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x128, .f32⟩
  | .hbm, ⟨16, _⟩ => ⟨S1024x128, .f32⟩
  | .hbm, ⟨17, _⟩ => ⟨S128x100000, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024x1, .f32⟩
  | .hbm, ⟨27, _⟩ => ⟨S1024x100000, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024, .f32⟩
  | .hbm, ⟨32, _⟩ => ⟨S1024x1, .f32⟩
  | .hbm, ⟨33, _⟩ => ⟨S1024x100000, .f32⟩
  | .hbm, ⟨34, _⟩ => ⟨S1024x100000, .f32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S1024x1, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S1024x1, .i32⟩
  | .hbm, ⟨64, _⟩ => ⟨S1024x2, .i32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S_, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S2, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_call1_v0 : Ref sig .tc := ⟨.hbm, 71, rfl⟩
abbrev main_call1_v1 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Proof.Common.lean ====
/-
  What every part of the kernel's proof shares: the program as the launch theorem sees it, the proof's resource
  algebra — the launch handshakes' rounds, the pipelines' rounds and the transfers' counters — and the names of
  the arrays and of the values they hold.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev SC : SparseCore.Cfg τ sig (ΛP (F := F)) 1 := sc (F := F)
theorem nSub_zero : (SC (F := F)).nSub 0 = 16 := rfl
theorem nCore_zero : (SC (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are unscoped and distinct, no shared buffer is scoped. -/
theorem facts : (SC (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := (UH × UP) × Counters

abbrev MM (F : FTy → Type) : Type := MT nD τ sig (HIx 1) (Elt F) ℕ UU ℕ

/-- The handshakes' rounds in the machine's algebra. -/
abbrev EH : Emb UH (MM F) := (Emb.inl : Emb UH (UH × UP)).trans embL
/-- The pipelines' rounds in the machine's algebra. -/
abbrev EP : Emb UP (MM F) := (Emb.inr : Emb UP (UH × UP)).trans embL

instance EH_landsIn : (EH (F := F)).LandsIn (upEmb : UEmb _ (MM F)) := by unfold EH; infer_instance
instance EP_landsIn : (EP (F := F)).LandsIn (upEmb : UEmb _ (MM F)) := by unfold EP; infer_instance

/-! ## The arrays -/

variable (m : (ℓ : Loc nD τ sig) → Buf (Elt F) ℓ)

/-- The samples, -/
abbrev zLoc (d : Dev nD) : Loc nD τ sig := (SparseCore.T d).loc main_arg0
/-- the indices, -/
abbrev iLoc (d : Dev nD) : Loc nD τ sig := (SparseCore.T d).loc main_arg1
/-- the memory bank, -/
abbrev xLoc (d : Dev nD) : Loc nD τ sig := (SparseCore.T d).loc main_arg2
/-- the parameters, -/
abbrev pLoc (d : Dev nD) : Loc nD τ sig := (SparseCore.T d).loc main_arg3
/-- the flags; -/
abbrev gLoc (d : Dev nD) : Loc nD τ sig := (SparseCore.T d).loc main_arg4
/-- the gathered rows. -/
abbrev oLoc (d : Dev nD) : Loc nD τ sig := (SparseCore.T d).loc main_v1

/-- What the proof asks of the launch memory: every index names a row of the bank. -/
def PreOK : Prop := ∀ (d : Dev nD) (j : S1024.Idx), (m (iLoc d) j).toNat < 100000

/-- The row of the bank that index word `w` names. -/
def rowIx (w : BitVec 32) : Fin 100000 := ⟨w.toNat % 100000, Nat.mod_lt _ (by decide)⟩

/-- The gathered rows: row `b` is the bank's row the `b`-th index names. -/
def gathered (d : Dev nD) : Buf (Elt F) (oLoc d) := fun j : S1024x128.Idx =>
  m (xLoc d) ((fun | 0 => rowIx (m (iLoc d) (fun | 0 => (j 0 : Fin 1024) : S1024.Idx)) | 1 => (j 1 : Fin 128) : S100000x128.Idx))

end Cert.Proof.K

end
-- ==== Proof.StreamRun.lean ====
module

public import proofs.«01_k».proof.Proof.Common
public import Idealize.ShloMosaic.Lib.Pipeline.Value

@[expose] public section

set_option maxRecDepth 65536

noncomputable section

namespace Cert.Proof.K

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## What the streaming body computes -/

/-- The perfect binary tree of `addf` over the `2 ^ n` vectors `g`, neighbours first. -/
def tree : (n : ℕ) → (Fin (2 ^ n) → FVec F S1024x128 .f32) → FVec F S1024x128 .f32
  | 0, g => g 0
  | n + 1, g => addf (tree n fun k => g ⟨k.val, by have := k.isLt; rw [Nat.pow_succ]; omega⟩)
      (tree n fun k => g ⟨2 ^ n + k.val, by have := k.isLt; rw [Nat.pow_succ]; omega⟩)

theorem slices_leaf (j : Fin 32) : S1024x4096.Slices ![0, 128 * j.val] S1024x128 :=
  ⟨rfl, fun | 0 => by show 0 + 1024 ≤ 1024; omega
            | 1 => by show 128 * j.val + 128 ≤ 4096; have := j.isLt; omega⟩

/-- The exponentials of columns `128 j …` of the similarities. -/
def leaf (s : FVec F S1024x4096 .f32) (j : Fin 32) : FVec F S1024x128 .f32 :=
  exp2 (extractStridedSlice S1024x128 ![0, 128 * j.val] s (slices_leaf j))

/-- The similarities of the scaled rows with one block of the memory. -/
def sim (z : Vec F S1024x128 .bf16) (x : Vec F S4096x128 .f32) : FVec F S1024x4096 .f32 :=
  matmul dot_S1024x128_S4096x128_S1024x4096_1_1_0_0_n_n none
    (shapeCast S1024x128 z shapeCasts_S1024x128_S1024x128) (truncf .bf16 x bitsLt_bf16_f32)
    (constant S1024x4096 .f32 0x00000000#32)

/-- One block's exponentials, folded to 128 columns. -/
def fold (z : Vec F S1024x128 .bf16) (x : Vec F S4096x128 .f32) : FVec F S1024x128 .f32 :=
  tree 5 (leaf (sim z x))

/-- A grid point's four blocks, folded. -/
def part (z : Vec F S1024x128 .bf16) (x2 x3 x4 x5 : Vec F S4096x128 .f32) : FVec F S1024x128 .f32 :=
  addf (addf (addf (fold z x2) (fold z x3)) (fold z x4)) (fold z x5)

/-- The body's loads and stores, with the stored values named. -/
def body' (i : grid0.Coords) (arg1 : Memref sig .tc .smem S2 .f32) (harg1 : arg1.IsWhole) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .bf16) (harg9 : arg9.IsWhole) :
    Prog (TpuEff nD τ sig (Elt F) Λ₀ .tc) PUnit := do
  if k0_h1 : k0_cond1 i = 1#1 then do
    let a : Vec F S1024x128 .f32 ← Prog.lift (.load arg2 (Rect.unit (s := S1024x128) ![0, 0] S1024x128.size inb_S1024x128_S1024x128_0_0).toLoadRect (View.loadsAt_vmem h_S1024x128))
    let t : Elt F .f32 ← smemLoad arg1 (Rect.unit (s := S2) ![0] S1.size inb_S2_S1_0) numel1_S1 rfl
    let _ : Vec F S1024x128 .f32 ← Prog.lift (.load arg8 (Rect.unit (s := S1024x128) ![0, 0] S1024x128.size inb_S1024x128_S1024x128_0_0).toLoadRect (View.loadsAt_vmem h_S1024x128))
    Prog.lift (.store arg8 (Rect.unit (s := S1024x128) ![0, 0] S1024x128.size inb_S1024x128_S1024x128_0_0) (k0_pay2 a t) Finset.univ (View.stores_vmem_bits_univ h_S1024x128 rfl) (.inl rfl))
    let _ : Vec F S1024x128 .bf16 ← Prog.lift (.load arg9 (Rect.unit (s := S1024x128) ![0, 0] S1024x128.size inb_S1024x128_S1024x128_0_0).toLoadRect (View.loadsAt_vmem h_S1024x128))
    Prog.lift (.store arg9 (Rect.unit (s := S1024x128) ![0, 0] S1024x128.size inb_S1024x128_S1024x128_0_0) (k0_pay3 a t) Finset.univ (View.stores_vmem h_S1024x128 (harg9.storeExact_slice rfl _ packedbf16_S1024x128_S1024x128_0_0) (fun _ => rfl)) (.inl rfl))
    pure ⟨⟩
  else do
    pure ⟨⟩
  let z1 : Vec F S1024x128 .bf16 ← Prog.lift (.load arg9 (Rect.unit (s := S1024x128) ![0, 0] S1024x128.size inb_S1024x128_S1024x128_0_0).toLoadRect (View.loadsAt_vmem h_S1024x128))
  let x2 : Vec F S4096x128 .f32 ← Prog.lift (.load arg3 (Rect.unit (s := S4096x128) ![0, 0] S4096x128.size inb_S4096x128_S4096x128_0_0).toLoadRect (View.loadsAt_vmem h_S4096x128))
  let z2 : Vec F S1024x128 .bf16 ← Prog.lift (.load arg9 (Rect.unit (s := S1024x128) ![0, 0] S1024x128.size inb_S1024x128_S1024x128_0_0).toLoadRect (View.loadsAt_vmem h_S1024x128))
  let x3 : Vec F S4096x128 .f32 ← Prog.lift (.load arg4 (Rect.unit (s := S4096x128) ![0, 0] S4096x128.size inb_S4096x128_S4096x128_0_0).toLoadRect (View.loadsAt_vmem h_S4096x128))
  let z3 : Vec F S1024x128 .bf16 ← Prog.lift (.load arg9 (Rect.unit (s := S1024x128) ![0, 0] S1024x128.size inb_S1024x128_S1024x128_0_0).toLoadRect (View.loadsAt_vmem h_S1024x128))
  let x4 : Vec F S4096x128 .f32 ← Prog.lift (.load arg5 (Rect.unit (s := S4096x128) ![0, 0] S4096x128.size inb_S4096x128_S4096x128_0_0).toLoadRect (View.loadsAt_vmem h_S4096x128))
  let z4 : Vec F S1024x128 .bf16 ← Prog.lift (.load arg9 (Rect.unit (s := S1024x128) ![0, 0] S1024x128.size inb_S1024x128_S1024x128_0_0).toLoadRect (View.loadsAt_vmem h_S1024x128))
  let x5 : Vec F S4096x128 .f32 ← Prog.lift (.load arg6 (Rect.unit (s := S4096x128) ![0, 0] S4096x128.size inb_S4096x128_S4096x128_0_0).toLoadRect (View.loadsAt_vmem h_S4096x128))
  let old : Vec F S1024x128 .f32 ← Prog.lift (.load arg7 (Rect.unit (s := S1024x128) ![0, 0] S1024x128.size inb_S1024x128_S1024x128_0_0).toLoadRect (View.loadsAt_vmem h_S1024x128))
  let _ : Vec F S1024x128 .f32 ← Prog.lift (.load arg7 (Rect.unit (s := S1024x128) ![0, 0] S1024x128.size inb_S1024x128_S1024x128_0_0).toLoadRect (View.loadsAt_vmem h_S1024x128))
  let p : FVec F S1024x128 .f32 := addf (addf (addf (fold z1 x2) (fold z2 x3)) (fold z3 x4)) (fold z4 x5)
  Prog.lift (.store arg7 (Rect.unit (s := S1024x128) ![0, 0] S1024x128.size inb_S1024x128_S1024x128_0_0)
    (Scalar.select (Scalar.cmpi .eq (BitVec.ofNat 32 (i 0).val) 0#32) p (addf (shapeCast S1024x128 old shapeCasts_S1024x128_S1024x128) p) : FVec F S1024x128 .f32)
    Finset.univ (View.stores_vmem_bits_univ h_S1024x128 rfl) (.inl rfl))
  pure ⟨⟩

set_option maxHeartbeats 4000000 in
/-- The streaming body is these loads and stores: the printed sums are the tree. -/
theorem body_eq : cc0_body (F := F) = body' := by
  rw [cc0_body_eq_skeleton]
  funext i arg1 harg1 arg2 harg2 arg3 harg3 arg4 harg4 arg5 harg5 arg6 harg6 arg7 harg7 arg8 harg8 arg9 harg9
  unfold cc0_body_skel body'
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  by_cases h : k0_cond1 i = 1#1
  · simp only [dif_pos h]
    rfl
  · simp only [dif_neg h]
    rfl

/-! ## Running it -/

/-- The body's first-point condition, from the grid coordinates. -/
abbrev first (i : grid0.Coords) : Prop := k0_cond1 i = 1#1

/-- The scalar operand. -/
def word (x : Vec F S2 .f32) : Elt F .f32 := x ((fun | 0 => (0 : Fin 2)) : S2.Idx)

theorem hz2 : (![0, 0] : Fin 2 → ℕ) = fun _ => 0 := funext fun | 0 => rfl | 1 => rfl

/-- A load of a whole buffer reads what it holds. -/
theorem rd {κ : Kind} {sp : Space} {S : Shape} {e : EltTy} {m : Memref sig κ sp S e} (h : m.IsWhole) {off : Fin S.rank → ℕ} (ho : off = fun _ => 0)
    (inb : ∀ a, off a + S.size a ≤ S.size a) (x : S.Idx → Elt F e) :
    View.readAt (Elt F) m.view (Rect.unit off S.size inb).toLoadRect (h.unread x) = x := by
  rw [View.readAt_eq_ld, h.read_unread, View.ld_unit_zero ho]

/-- One store over a whole block leaves its payload. -/
theorem stored {κ : Kind} {sp : Space} {S : Shape} {e : EltTy} (v : View sig κ sp S e) (f : v.ty.Contents (Elt F)) {off : Fin S.rank → ℕ} (ho : off = fun _ => 0)
    (inb : ∀ a, off a + S.size a ≤ S.size a) (w : S.Idx → Elt F e) :
    View.read (Elt F) v (v.writes (Elt F) f [⟨Rect.unit off S.size inb, w⟩]) = w := by
  rw [View.read_writes_eq_canon v f _ (fun y => ⟨_, List.mem_singleton_self _, View.mem_set_unit_zero ho inb y⟩), View.canon_unit_zero ho]

theorem rdWord {m : Memref sig .tc .smem S2 .f32} (h : m.IsWhole) (x : Vec F S2 .f32) (y : S1.Idx) :
    View.readAt (Elt F) m.view (Rect.unit (s := S2) ![0] S1.size inb_S2_S1_0).toLoadRect (h.unread x) y = word x := by
  rw [View.readAt_eq_ld, h.read_unread]
  refine congrArg x (funext fun | 0 => Fin.ext ?_)
  show 0 + 1 * (y 0).val = 0
  have := (y 0).isLt; simp only [S1] at this; have h2 : (y 0).val < 1 := this; omega

theorem first_iff (i : grid0.Coords) : Scalar.cmpi .eq (BitVec.ofNat 32 (i 0).val) 0#32 = 1 ↔ first i := by
  have hi : (i 0).val < 6 := (i 0).isLt
  unfold first k0_cond1
  generalize (i 0).val = n at hi
  revert n; decide

set_option maxHeartbeats 1000000 in
/-- The first grid point: the two row arrays are computed and stored, and the accumulator begins at this point's part. -/
theorem run0_A (c : Dev nD) (i : grid0.Coords) (arg1 : Memref sig .tc .smem S2 .f32) (harg1 : arg1.IsWhole) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .bf16) (harg9 : arg9.IsWhole) (hc0 : first i)
    (x0 : Vec F S2 .f32) (x1 : Vec F S1024x128 .f32) (x2 x3 x4 x5 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (part (k0_pay3 x1 (word x0)) x2 x3 x4 x5) ∗ owns (c : Thread nD τ) arg8 fullShare (k0_pay2 x1 (word x0)) ∗ owns (c : Thread nD τ) arg9 fullShare (k0_pay3 x1 (word x0))) -∗ K ⟨⟩))
      ⊢ wp frame (wpE (defs₀ (F := F)) 𝒱₀ c none) E (cc0_body i arg1 harg1 arg2 harg2 arg3 harg3 arg4 harg4 arg5 harg5 arg6 harg6 arg7 harg7 arg8 harg8 arg9 harg9) K := by
  rw [body_eq]; unfold body' owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [stored _ _ hz2, Scalar.select, if_pos ((first_iff i).2 hc0)]
    have hz : run0_A.sl.z1 c arg1 harg1 arg2 harg2 arg9 x0 x1 = k0_pay3 x1 (word x0) := by
      unfold run0_A.sl.z1 run0_A.sl.H8_1
      rw [View.readCov_unit_zero _ hz2, rd harg2 hz2]
      exact congrArg _ (rdWord harg1 x0 _)
    unfold run0_A.sl.p
    rw [hz, rd harg3 hz2, rd harg4 hz2, rd harg5 hz2, rd harg6 hz2]
    rfl
  isplitl [H7]
  · iexists _; isplitr; swap; · iexact H7
    ipureintro
    rw [stored _ _ hz2, rd harg2 hz2]
    exact congrArg _ (rdWord harg1 x0 _)
  iexists _; isplitr; swap; · iexact H8
  ipureintro
  unfold run0_A.sl.H8_1
  rw [stored _ _ hz2, rd harg2 hz2]
  exact congrArg _ (rdWord harg1 x0 _)

set_option maxHeartbeats 1000000 in
/-- A later grid point: the row arrays stay, and this point's part is added to the accumulator. -/
theorem run0_B (c : Dev nD) (i : grid0.Coords) (arg1 : Memref sig .tc .smem S2 .f32) (harg1 : arg1.IsWhole) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .bf16) (harg9 : arg9.IsWhole) (hc0 : ¬ first i)
    (x0 : Vec F S2 .f32) (x1 : Vec F S1024x128 .f32) (x2 x3 x4 x5 : Vec F S4096x128 .f32) (x6 x7 : Vec F S1024x128 .f32) (x8 : Vec F S1024x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (addf x6 (part x8 x2 x3 x4 x5)) ∗ owns (c : Thread nD τ) arg8 fullShare x7 ∗ owns (c : Thread nD τ) arg9 fullShare x8) -∗ K ⟨⟩))
      ⊢ wp frame (wpE (defs₀ (F := F)) 𝒱₀ c none) E (cc0_body i arg1 harg1 arg2 harg2 arg3 harg3 arg4 harg4 arg5 harg5 arg6 harg6 arg7 harg7 arg8 harg8 arg9 harg9) K := by
  rw [body_eq]; unfold body' owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [stored _ _ hz2, Scalar.select, if_neg (fun h => hc0 ((first_iff i).1 h)), shapeCast_self, rd harg7 hz2]
    refine congrArg (addf x6) ?_
    unfold run0_B.sl.p
    rw [rd harg9 hz2, rd harg3 hz2, rd harg4 hz2, rd harg5 hz2, rd harg6 hz2]
    rfl
  isplitl [H7]
  · iexists _; isplitr; · ipureintro; exact harg8.read_unread _
    iexact H7
  iexists _; isplitr; swap; · iexact H8
  ipureintro; exact harg9.read_unread _

end Cert.Proof.K
-- ==== Proof.Stream.lean ====
/-
  The streaming pipeline (grid of six points): what its windows hold at each point, the body's obligation, and
  what its three result arrays hold when it ends.
-/
module

public import proofs.«01_k».proof.Proof.StreamRun
public import Idealize.ShloMosaic.Lib.Pipeline.ArrRel

@[expose] public section

noncomputable section

namespace Cert.Proof.K

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MM F

/-! ## The values -/

/-- Contents of the buffers of a core's thread. -/
abbrev Cont (F : FTy → Type) (c : Dev nD) : Type := (b : Ref sig .tc) → Buf (Elt F) ((c.tc : Thread nD τ).loc b)

/-- Block `n` of 4096 rows of the memory. -/
def rowsOf (x : Vec F S100000x128 .f32) (n : ℕ) : Vec F S4096x128 .f32 := fun j =>
  x ((fun | 0 => ⟨(4096 * n + (j 0).val) % 100000, Nat.mod_lt _ (by decide)⟩ | 1 => (j 1 : Fin 128) : S100000x128.Idx))

variable {c : Dev nD} (V : Cont F c)

/-- The scaled rows, -/
def zn : Vec F S1024x128 .f32 := k0_pay2 (V main_arg0 : Vec F S1024x128 .f32) (word (V main_arg3 : Vec F S2 .f32))
/-- and the same scaled to base two. -/
def znb : Vec F S1024x128 .bf16 := k0_pay3 (V main_arg0 : Vec F S1024x128 .f32) (word (V main_arg3 : Vec F S2 .f32))
/-- The part of point `n`: its four blocks of the memory, folded. -/
def partAt (n : ℕ) : Vec F S1024x128 .f32 :=
  part (znb V) (rowsOf (V main_arg2) (4 * n)) (rowsOf (V main_arg2) (4 * n + 1)) (rowsOf (V main_arg2) (4 * n + 2)) (rowsOf (V main_arg2) (4 * n + 3))
/-- The accumulator after point `n`. -/
def accAt : ℕ → Vec F S1024x128 .f32
  | 0 => partAt V 0
  | n + 1 => addf (accAt n) (partAt V (n + 1))

/-! ## The proof data -/

/-- The waits a core may have recorded up to level `8 * n`. -/
def recTo (F : FTy → Type) (c : Dev nD) (n : ℕ) : Set (SemLoc sig × HIx 1) :=
  {p | (SC (F := F)).lev (SparseCore.T c, p.1) p.2 ≤ 8 * n}

/-- The streaming pipeline's proof data on core `c` over entry contents `V`: inputs are left as found; the
    accumulator and the two row arrays are at their named values after every point. -/
def rd0 (c : Dev nD) (V : Cont F c) (n : ℕ) : RDat τ (Elt F) (HIx 1) ℕ UU ℕ cfg0 c where
  A w := V (Pipeline.arrRef spec0 w)
  after w t Y X := match w, Y, X with
    | ⟨6, _⟩, _, X => X = accAt V t.val
    | ⟨7, _⟩, _, X => X = zn V
    | ⟨8, _⟩, _, X => X = znb V
    | ⟨0, _⟩, Y, X => X = Y
    | ⟨1, _⟩, Y, X => X = Y
    | ⟨2, _⟩, Y, X => X = Y
    | ⟨3, _⟩, Y, X => X = Y
    | ⟨4, _⟩, Y, X => X = Y
    | ⟨5, _⟩, Y, X => X = Y
  Φ _ := Pipeline.scopedRest spec0 c
  q w := Pipeline.shareOf spec0 w
  owed _ := (SC (F := F)).Otc c n
  recorded _ := recTo F c n

variable (n : ℕ)

/-- What a fetch leaves at a place it moves: the array's word where the block's place lies in the array. -/
theorem fetched_at {cfg : Cfg sig Λ₀} {c : Dev nD} (rd : RDat τ (Elt F) (HIx 1) ℕ UU ℕ cfg c) (w : Fin cfg.W) (t : Fin cfg.N)
    (d : (cfg.win w).block.Idx → Elt F (cfg.win w).elt) (j : (cfg.win w).block.Idx)
    (hm : ∀ a, (j a).val < (cfg.win w).xsize (cfg.grid.coords t) a) :
    rd.fetched w t d j = rd.blockOf w t (fun a => ⟨(j a).val, hm a⟩) := by
  unfold RDat.fetched Pipeline.Window.fill
  rw [dif_pos ((Pipeline.Window.moved_iff _ _ _).2 hm)]

/-- A place in block `q`, where `q` is known to be `k`. -/
theorem place {q k b j r : ℕ} (h : q = k) (hr : k * b + j = r) : q * b + j = r := h ▸ hr

/-- A place in the first block is itself. -/
theorem place_zero {q b j : ℕ} (h : q = 0) : q * b + j = j := place h (by omega)

theorem index0_0 : ∀ t : Fin cfg0.N, win0_0.index t 0 = 0 := by decide +kernel
theorem index0_1 : ∀ t : Fin cfg0.N, win0_1.index t 0 = 0 ∧ win0_1.index t 1 = 0 := by decide +kernel

/-- The row window holds the rows throughout. -/
theorem found0_1 (t : Fin cfg0.N) (Y) (h : (rd0 c V n).Finds 1 t Y) : Y = (V main_arg0 : Vec F S1024x128 .f32) := by
  obtain ⟨d, rfl⟩ := (rd0 c V n).finds_in_eq_fetched 1 rfl (fun _ _ _ => rfl) (fun _ _ _ h => h) t Y h
  refine funext fun j => (fetched_at _ _ t d j fun a => (j a).isLt).trans ?_
  unfold RDat.blockOf
  blk_simp
  refine congrArg (V main_arg0 : Vec F S1024x128 .f32) (funext fun (a : Fin 2) => Fin.ext ?_)
  blk_simp
  fin_cases a
  · exact place_zero (index0_1 t).1
  · exact place_zero (index0_1 t).2

/-- The parameter window holds the parameters throughout. -/
theorem found0_0 (t : Fin cfg0.N) (Y) (h : (rd0 c V n).Finds 0 t Y) : Y = (V main_arg3 : Vec F S2 .f32) := by
  obtain ⟨d, rfl⟩ := (rd0 c V n).finds_in_eq_fetched 0 rfl (fun _ _ _ => rfl) (fun _ _ _ h => h) t Y h
  refine funext fun j => (fetched_at _ _ t d j fun a => (j a).isLt).trans ?_
  unfold RDat.blockOf
  blk_simp
  refine congrArg (V main_arg3 : Vec F S2 .f32) (funext fun (a : Fin 1) => Fin.ext ?_)
  blk_simp
  fin_cases a
  exact place_zero (index0_0 t)

/-- Row `4096 (4 t + k) + j` lies in the memory's array. -/
theorem row_val (t : Fin cfg0.N) (k : ℕ) (hk : k < 4) (j : Fin 4096) :
    (4 * t.val + k) * 4096 + j.val = (4096 * (4 * t.val + k) + j.val) % 100000 := by
  have ht : t.val < 6 := lt_of_lt_of_eq t.isLt (show cfg0.N = 6 from N_0)
  have := j.isLt
  rw [Nat.mod_eq_of_lt (by omega)]; omega

theorem xsize0_2 : ∀ t : Fin cfg0.N, ∀ a, (cfg0.win 2).xsize (cfg0.grid.coords t) a = (cfg0.win 2).size a := by decide +kernel
theorem index0_2 : ∀ t : Fin cfg0.N, win0_2.index t 0 = 4 * t.val ∧ win0_2.index t 1 = 0 := by decide +kernel
/-- Memory window 2 holds block `4 * t.val` of the memory at point `t`. -/
theorem found0_2 (t : Fin cfg0.N) (Y) (h : (rd0 c V n).Finds 2 t Y) : Y = rowsOf (V main_arg2) (4 * t.val) := by
  obtain ⟨d, rfl⟩ := ((rd0 c V n).finds_of_fetch (fetch0_2 t) Y).mp h
  refine funext fun j => (fetched_at _ _ t d j fun a => by rw [xsize0_2 t a]; exact (j a).isLt).trans ?_
  unfold RDat.blockOf
  blk_simp
  refine congrArg (V main_arg2 : Vec F S100000x128 .f32) (funext fun (a : Fin 2) => Fin.ext ?_)
  blk_simp
  fin_cases a
  · exact place (index0_2 t).1 (row_val t 0 (by decide) (j 0))
  · exact place_zero (index0_2 t).2

theorem xsize0_3 : ∀ t : Fin cfg0.N, ∀ a, (cfg0.win 3).xsize (cfg0.grid.coords t) a = (cfg0.win 3).size a := by decide +kernel
theorem index0_3 : ∀ t : Fin cfg0.N, win0_3.index t 0 = 4 * t.val + 1 ∧ win0_3.index t 1 = 0 := by decide +kernel
/-- Memory window 3 holds block `4 * t.val + 1` of the memory at point `t`. -/
theorem found0_3 (t : Fin cfg0.N) (Y) (h : (rd0 c V n).Finds 3 t Y) : Y = rowsOf (V main_arg2) (4 * t.val + 1) := by
  obtain ⟨d, rfl⟩ := ((rd0 c V n).finds_of_fetch (fetch0_3 t) Y).mp h
  refine funext fun j => (fetched_at _ _ t d j fun a => by rw [xsize0_3 t a]; exact (j a).isLt).trans ?_
  unfold RDat.blockOf
  blk_simp
  refine congrArg (V main_arg2 : Vec F S100000x128 .f32) (funext fun (a : Fin 2) => Fin.ext ?_)
  blk_simp
  fin_cases a
  · exact place (index0_3 t).1 (row_val t 1 (by decide) (j 0))
  · exact place_zero (index0_3 t).2

theorem xsize0_4 : ∀ t : Fin cfg0.N, ∀ a, (cfg0.win 4).xsize (cfg0.grid.coords t) a = (cfg0.win 4).size a := by decide +kernel
theorem index0_4 : ∀ t : Fin cfg0.N, win0_4.index t 0 = 4 * t.val + 2 ∧ win0_4.index t 1 = 0 := by decide +kernel
/-- Memory window 4 holds block `4 * t.val + 2` of the memory at point `t`. -/
theorem found0_4 (t : Fin cfg0.N) (Y) (h : (rd0 c V n).Finds 4 t Y) : Y = rowsOf (V main_arg2) (4 * t.val + 2) := by
  obtain ⟨d, rfl⟩ := ((rd0 c V n).finds_of_fetch (fetch0_4 t) Y).mp h
  refine funext fun j => (fetched_at _ _ t d j fun a => by rw [xsize0_4 t a]; exact (j a).isLt).trans ?_
  unfold RDat.blockOf
  blk_simp
  refine congrArg (V main_arg2 : Vec F S100000x128 .f32) (funext fun (a : Fin 2) => Fin.ext ?_)
  blk_simp
  fin_cases a
  · exact place (index0_4 t).1 (row_val t 2 (by decide) (j 0))
  · exact place_zero (index0_4 t).2

theorem xsize0_5 : ∀ t : Fin cfg0.N, ∀ a, (cfg0.win 5).xsize (cfg0.grid.coords t) a = (cfg0.win 5).size a := by decide +kernel
theorem index0_5 : ∀ t : Fin cfg0.N, win0_5.index t 0 = 4 * t.val + 3 ∧ win0_5.index t 1 = 0 := by decide +kernel
/-- Memory window 5 holds block `4 * t.val + 3` of the memory at point `t`. -/
theorem found0_5 (t : Fin cfg0.N) (Y) (h : (rd0 c V n).Finds 5 t Y) : Y = rowsOf (V main_arg2) (4 * t.val + 3) := by
  obtain ⟨d, rfl⟩ := ((rd0 c V n).finds_of_fetch (fetch0_5 t) Y).mp h
  refine funext fun j => (fetched_at _ _ t d j fun a => by rw [xsize0_5 t a]; exact (j a).isLt).trans ?_
  unfold RDat.blockOf
  blk_simp
  refine congrArg (V main_arg2 : Vec F S100000x128 .f32) (funext fun (a : Fin 2) => Fin.ext ?_)
  blk_simp
  fin_cases a
  · exact place (index0_5 t).1 (row_val t 3 (by decide) (j 0))
  · exact place_zero (index0_5 t).2

/-- A window that neither fetches at `t` nor wrote back at the point before holds what the body left there. -/
theorem found_prev (w : Fin cfg0.W) (t : Fin cfg0.N) (hf : (cfg0.win w).fetch t = false) (ht : t.val ≠ 0)
    (hfl : (cfg0.win w).flush ⟨t.val - 1, Nat.lt_of_le_of_lt (Nat.sub_le _ _) t.isLt⟩ = false) (Y) (h : (rd0 c V n).Finds w t Y) :
    ∃ Y', (rd0 c V n).after w ⟨t.val - 1, Nat.lt_of_le_of_lt (Nat.sub_le _ _) t.isLt⟩ Y' Y := by
  rcases ((rd0 c V n).finds_of_pos hf ht Y).mp h with hl | ⟨Y', -, hR⟩
  · rw [hfl] at hl; exact absurd hl Bool.false_ne_true
  · exact ⟨Y', hR⟩

theorem nofetch : ∀ t : Fin cfg0.N, (cfg0.win 6).fetch t = false ∧ (cfg0.win 7).fetch t = false ∧ (cfg0.win 8).fetch t = false := by decide +kernel
theorem noflush : ∀ t : Fin cfg0.N, t.val ≠ 5 → (cfg0.win 6).flush t = false ∧ (cfg0.win 7).flush t = false ∧ (cfg0.win 8).flush t = false := by decide +kernel
theorem whole0 : (cfg0.win 6).WholeAt t0_5 ∧ (cfg0.win 7).WholeAt t0_5 ∧ (cfg0.win 8).WholeAt t0_5 := by decide +kernel
theorem first_at : ∀ t : Fin cfg0.N, first (grid0.coords t) ↔ t.val = 0 := by decide +kernel

/-- After the first point the accumulator and the row arrays are at their values of the point before. -/
theorem found0_678 (t : Fin cfg0.N) (ht : t.val ≠ 0) (Y : (w : Fin cfg0.W) → (cfg0.win w).block.Idx → Elt F (cfg0.win w).elt)
    (h : ∀ w, (rd0 c V n).Finds w t (Y w)) : Y 6 = accAt V (t.val - 1) ∧ Y 7 = zn V ∧ Y 8 = znb V := by
  have hN : t.val < 6 := lt_of_lt_of_eq t.isLt (show cfg0.N = 6 from N_0)
  have hfl := noflush ⟨t.val - 1, Nat.lt_of_le_of_lt (Nat.sub_le _ _) t.isLt⟩ (by show t.val - 1 ≠ 5; omega)
  obtain ⟨_, h6⟩ := found_prev V n 6 t (nofetch t).1 ht hfl.1 _ (h 6)
  obtain ⟨_, h7⟩ := found_prev V n 7 t (nofetch t).2.1 ht hfl.2.1 _ (h 7)
  obtain ⟨_, h8⟩ := found_prev V n 8 t (nofetch t).2.2 ht hfl.2.2 _ (h 8)
  exact ⟨h6, h7, h8⟩

theorem row0 (t : Fin cfg0.N) : defs₀ (F := F) .tc cfg0.body (cfg0.bodyArgs t (cfg0.slots t)) = bodyAt0 t := by
  unfold defs₀; rfl

/-- The body's obligation at every point. -/
theorem body0 (c : Dev nD) (V : Cont F c) (n : ℕ) : (rd0 c V n).BodyObligation defs₀ 𝒱₀ (none : HIx 1) Set.univ := fun t Y hY => by
  rw [bigSep_W0, bigSep_W0, row0]
  have e0 := found0_0 V n t _ (hY 0)
  have e1 := found0_1 V n t _ (hY 1)
  have e2 := found0_2 V n t _ (hY 2)
  have e3 := found0_3 V n t _ (hY 3)
  have e4 := found0_4 V n t _ (hY 4)
  have e5 := found0_5 V n t _ (hY 5)
  rw [show (rd0 c V n).Φ t.succ = (rd0 c V n).Φ t.castSucc from rfl,
    show (rd0 c V n).owesAt none t.succ = (rd0 c V n).owesAt none t.castSucc from rfl]
  unfold bodyAt0
  by_cases ht : t.val = 0
  · iintro ⟨HΦ, Ho, H0, H1, H2, H3, H4, H5, H6, H7, H8⟩
    iapply (run0_A c (grid0.coords t) _ _ _ _ _ _ _ _ _ _ _ _ _ _ _ _ _ _ ((first_at t).2 ht) (Y 0) (Y 1) (Y 2) (Y 3) (Y 4) (Y 5) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]
    · iexists _; isplitr; swap; · iexact H6
      ipureintro
      show part (k0_pay3 (Y 1) (word (Y 0))) (Y 2) (Y 3) (Y 4) (Y 5) = accAt V t.val
      rw [e0, e1, e2, e3, e4, e5, ht]; rfl
    isplitl [H7]
    · iexists _; isplitr; swap; · iexact H7
      ipureintro
      show k0_pay2 (Y 1) (word (Y 0)) = zn V
      rw [e0, e1]; rfl
    iexists _; isplitr; swap; · iexact H8
    ipureintro
    show k0_pay3 (Y 1) (word (Y 0)) = znb V
    rw [e0, e1]; rfl
  · obtain ⟨e6, e7, e8⟩ := found0_678 V n t ht Y hY
    iintro ⟨HΦ, Ho, H0, H1, H2, H3, H4, H5, H6, H7, H8⟩
    iapply (run0_B c (grid0.coords t) _ _ _ _ _ _ _ _ _ _ _ _ _ _ _ _ _ _ (fun h => ht ((first_at t).1 h)) (Y 0) (Y 1) (Y 2) (Y 3) (Y 4) (Y 5) (Y 6) (Y 7) (Y 8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]
    · iexists _; isplitr; swap; · iexact H6
      ipureintro
      show addf (Y 6) (part (Y 8) (Y 2) (Y 3) (Y 4) (Y 5)) = accAt V t.val
      rw [e2, e3, e4, e5, e6, e8]
      obtain ⟨k, hk⟩ := Nat.exists_eq_succ_of_ne_zero ht
      rw [hk]; rfl
    isplitl [H7]
    · iexists _; isplitr; swap; · iexact H7
      ipureintro; exact e7
    iexists _; isplitr; swap; · iexact H8
    ipureintro; exact e8

/-! ## What the result arrays hold -/

/-- The accumulator's array ends at the last point's value, -/
theorem final0_6 (G) (h : (rd0 c V n).ArrAt 6 cfg0.N G) : G = accAt V 5 := by
  obtain ⟨X, ⟨_, -, hX⟩, hG⟩ := h.emb_eq_of_wholeAt whole0.1
  have hX' : X = accAt V 5 := hX
  funext j
  exact (hG j).trans (by rw [hX']; rfl)
/-- the scaled rows' at theirs, -/
theorem final0_7 (G) (h : (rd0 c V n).ArrAt 7 cfg0.N G) : G = zn V := by
  obtain ⟨X, ⟨_, -, hX⟩, hG⟩ := h.emb_eq_of_wholeAt whole0.2.1
  have hX' : X = zn V := hX
  funext j
  exact (hG j).trans (by rw [hX']; rfl)
/-- and their base-two form's at theirs. -/
theorem final0_8 (G) (h : (rd0 c V n).ArrAt 8 cfg0.N G) : G = znb V := by
  obtain ⟨X, ⟨_, -, hX⟩, hG⟩ := h.emb_eq_of_wholeAt whole0.2.2
  have hX' : X = znb V := hX
  funext j
  exact (hG j).trans (by rw [hX']; rfl)

end Cert.Proof.K

end
-- ==== Proof.Finish.lean ====
/-
  The finishing pipeline (one grid point): the loads and stores of its body, what its windows hold, the body's
  obligation, and what its result array holds when it ends. The last block of the memory overhangs the array, so
  its staging buffer's rows past the array's end hold anything.
-/
module

public import proofs.«01_k».proof.Proof.Stream
public import Idealize.ShloMosaic.Lib.Pipeline.ArrRel
public import Idealize.ShloMosaic.Lib.WritesUnit

@[expose] public section

noncomputable section

namespace Cert.Proof.K

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MM F

/-! ## The body -/

/-- The two result words: the loss, and zero. -/
def outVec (v0 : Vec F S1024x128 .bf16) (v2 : Vec F S2048x128 .f32) (v13 v20 v22 : Vec F S1024x128 .f32) : Vec F S1x2 .f32 := fun j =>
  if (j 1).val = 0 then k2_pay1 v0 v2 v13 v20 v22 else Scalar.ofBits .f32 0x00000000#32

/-- The one index of a one-cell block. -/
def corner : S1x1.Idx := (fun | 0 => (0 : Fin 1) | 1 => (0 : Fin 1))

set_option maxHeartbeats 1000000 in
/-- The finishing body, run: the inputs stay and the result is the two words. -/
theorem run2 (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .smem S1x2 .f32) (harg6 : arg6.IsWhole)
    (x0 x1 : Vec F S1024x128 .f32) (x2 : Vec F S1024x128 .bf16) (x3 : Vec F S2048x128 .f32) (x4 : Vec F S1024x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outVec x2 x3 x0 x1 x4)) -∗ K ⟨⟩))
      ⊢ wp frame (wpE (defs₀ (F := F)) 𝒱₀ c none) E (cc2_body i arg1 harg1 arg2 harg2 arg3 harg3 arg4 harg4 arg5 harg5 arg6 harg6) K := by
  rw [cc2_body_eq_skeleton]; unfold cc2_body_skel; rw [k2_part1_eq_skeleton]; unfold k2_part1_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; · iexact H5
  ipureintro
  rw [rd harg1 hz2, rd harg2 hz2, rd harg3 hz2, rd harg4 hz2, rd harg5 hz2]
  funext j
  have hj0 : (j 0).val < 1 := (j 0).isLt
  have hj1 : (j 1).val < 2 := (j 1).isLt
  unfold outVec
  by_cases h : (j 1).val = 0
  · rw [if_pos h]
    refine (View.read_writes_cons_unit_of_not_mem (s := S1x2) _ _ _ _ _ _ rfl (1 : Fin 2) (Or.inl (by show (j 1).val < 1; omega))).trans ?_
    exact View.read_writes_cons_unit_of_mem (s := S1x2) _ _ _ _ _ _ corner rfl
        (fun (a : Fin 2) => match a with | 0 => by show (j 0).val = 0 + 0; omega | 1 => by show (j 1).val = 0 + 0; omega)
  · rw [if_neg h]
    exact View.read_writes_cons_unit_of_mem (s := S1x2) _ _ _ _ _ _ corner rfl
        (fun (a : Fin 2) => match a with | 0 => by show (j 0).val = 0 + 0; omega | 1 => by show (j 1).val = 1 + 0; omega)

/-! ## The proof data -/

variable {c : Dev nD} (V : Cont F c)

/-- The memory's last block: 1696 rows of the array from row 98304, then anything. -/
def tailOf (x : Vec F S100000x128 .f32) (d : Vec F S2048x128 .f32) : Vec F S2048x128 .f32 := fun j =>
  if (j 0).val < 1696 then
    x ((fun | 0 => ⟨(98304 + (j 0).val) % 100000, Nat.mod_lt _ (by decide)⟩ | 1 => (j 1 : Fin 128) : S100000x128.Idx))
  else d j

/-- The result the finishing body leaves where its buffer's rows past the memory's end are `d`. -/
def outAt (d : Vec F S2048x128 .f32) : Vec F S1x2 .f32 :=
  outVec (V main_v0_2) (tailOf (V main_arg2) d) (V main_v0_0) (V main_v0_1) (V main_v1)

/-- The finishing pipeline's proof data on core `c` over entry contents `V`: inputs are left as found; the result
    is the two words, for some contents of the rows past the memory's end. -/
def rd2 (c : Dev nD) (V : Cont F c) (n : ℕ) : RDat τ (Elt F) (HIx 1) ℕ UU ℕ cfg2 c where
  A w := V (Pipeline.arrRef spec2 w)
  after w t Y X := match w, Y, X with
    | ⟨5, _⟩, _, X => ∃ d, X = outAt V d
    | ⟨0, _⟩, Y, X => X = Y
    | ⟨1, _⟩, Y, X => X = Y
    | ⟨2, _⟩, Y, X => X = Y
    | ⟨3, _⟩, Y, X => X = Y
    | ⟨4, _⟩, Y, X => X = Y
  Φ _ := Pipeline.scopedRest spec2 c
  q w := Pipeline.shareOf spec2 w
  owed _ := (SC (F := F)).Otc c n
  recorded _ := recTo F c n

variable (n : ℕ)

theorem index2_0 : ∀ t : Fin cfg2.N, win2_0.index t 0 = 0 ∧ win2_0.index t 1 = 0 := by decide +kernel
/-- Window 0 holds the whole of the accumulator. -/
theorem found2_0 (t : Fin cfg2.N) (Y) (h : (rd2 c V n).Finds 0 t Y) : Y = (V main_v0_0 : Vec F S1024x128 .f32) := by
  obtain ⟨d, rfl⟩ := ((rd2 c V n).finds_of_fetch (fetch2_0 t) Y).mp h
  refine funext fun j => (fetched_at _ _ t d j fun a => (j a).isLt).trans ?_
  unfold RDat.blockOf
  blk_simp
  refine congrArg (V main_v0_0 : Vec F S1024x128 .f32) (funext fun (a : Fin 2) => Fin.ext ?_)
  blk_simp
  fin_cases a
  · exact place_zero (index2_0 t).1
  · exact place_zero (index2_0 t).2

theorem index2_1 : ∀ t : Fin cfg2.N, win2_1.index t 0 = 0 ∧ win2_1.index t 1 = 0 := by decide +kernel
/-- Window 1 holds the whole of the scaled rows. -/
theorem found2_1 (t : Fin cfg2.N) (Y) (h : (rd2 c V n).Finds 1 t Y) : Y = (V main_v0_1 : Vec F S1024x128 .f32) := by
  obtain ⟨d, rfl⟩ := ((rd2 c V n).finds_of_fetch (fetch2_1 t) Y).mp h
  refine funext fun j => (fetched_at _ _ t d j fun a => (j a).isLt).trans ?_
  unfold RDat.blockOf
  blk_simp
  refine congrArg (V main_v0_1 : Vec F S1024x128 .f32) (funext fun (a : Fin 2) => Fin.ext ?_)
  blk_simp
  fin_cases a
  · exact place_zero (index2_1 t).1
  · exact place_zero (index2_1 t).2

theorem index2_2 : ∀ t : Fin cfg2.N, win2_2.index t 0 = 0 ∧ win2_2.index t 1 = 0 := by decide +kernel
/-- Window 2 holds the whole of the rows scaled to base two. -/
theorem found2_2 (t : Fin cfg2.N) (Y) (h : (rd2 c V n).Finds 2 t Y) : Y = (V main_v0_2 : Vec F S1024x128 .bf16) := by
  obtain ⟨d, rfl⟩ := ((rd2 c V n).finds_of_fetch (fetch2_2 t) Y).mp h
  refine funext fun j => (fetched_at _ _ t d j fun a => (j a).isLt).trans ?_
  unfold RDat.blockOf
  blk_simp
  refine congrArg (V main_v0_2 : Vec F S1024x128 .bf16) (funext fun (a : Fin 2) => Fin.ext ?_)
  blk_simp
  fin_cases a
  · exact place_zero (index2_2 t).1
  · exact place_zero (index2_2 t).2

theorem index2_4 : ∀ t : Fin cfg2.N, win2_4.index t 0 = 0 ∧ win2_4.index t 1 = 0 := by decide +kernel
/-- Window 4 holds the whole of the gathered rows. -/
theorem found2_4 (t : Fin cfg2.N) (Y) (h : (rd2 c V n).Finds 4 t Y) : Y = (V main_v1 : Vec F S1024x128 .f32) := by
  obtain ⟨d, rfl⟩ := ((rd2 c V n).finds_of_fetch (fetch2_4 t) Y).mp h
  refine funext fun j => (fetched_at _ _ t d j fun a => (j a).isLt).trans ?_
  unfold RDat.blockOf
  blk_simp
  refine congrArg (V main_v1 : Vec F S1024x128 .f32) (funext fun (a : Fin 2) => Fin.ext ?_)
  blk_simp
  fin_cases a
  · exact place_zero (index2_4 t).1
  · exact place_zero (index2_4 t).2

theorem index2_3 : ∀ t : Fin cfg2.N, win2_3.index t 0 = 48 ∧ win2_3.index t 1 = 0 := by decide +kernel
theorem xsize2_3 : ∀ t : Fin cfg2.N, (cfg2.win 3).xsize (cfg2.grid.coords t) 0 = 1696 ∧ (cfg2.win 3).xsize (cfg2.grid.coords t) 1 = 128 := by decide +kernel
/-- Window 3 holds the memory's last block, with anything past the memory's end. -/
theorem found2_3 (t : Fin cfg2.N) (Y) (h : (rd2 c V n).Finds 3 t Y) : ∃ d, Y = tailOf (V main_arg2) d := by
  obtain ⟨d, rfl⟩ := ((rd2 c V n).finds_of_fetch (fetch2_3 t) Y).mp h
  refine ⟨d, funext fun j => ?_⟩
  unfold RDat.fetched Pipeline.Window.fill tailOf
  have hm : (cfg2.win 3).moved (cfg2.grid.coords t) j = true ↔ (j 0).val < 1696 := by
    rw [Pipeline.Window.moved_iff]
    constructor
    · intro h; exact lt_of_lt_of_eq (h 0) (xsize2_3 t).1
    · intro h a
      fin_cases a
      · exact lt_of_lt_of_eq h (xsize2_3 t).1.symm
      · exact lt_of_lt_of_eq (j 1).isLt (xsize2_3 t).2.symm
  by_cases hj : (j 0).val < 1696
  · rw [dif_pos (hm.2 hj), if_pos hj]
    unfold RDat.blockOf
    blk_simp
    refine congrArg (V main_arg2 : Vec F S100000x128 .f32) (funext fun (a : Fin 2) => Fin.ext ?_)
    blk_simp
    fin_cases a
    · exact place (index2_3 t).1 (by
        show 48 * 2048 + (j 0).val = (98304 + (j 0).val) % 100000
        rw [Nat.mod_eq_of_lt (by omega)])
    · exact place_zero (index2_3 t).2
  · rw [dif_neg (fun h => hj (hm.1 h)), if_neg hj]

theorem row2 (t : Fin cfg2.N) : defs₀ (F := F) .tc cfg2.body (cfg2.bodyArgs t (cfg2.slots t)) = bodyAt2 t := by
  unfold defs₀; rfl

/-- The body's obligation. -/
theorem body2 (c : Dev nD) (V : Cont F c) (n : ℕ) : (rd2 c V n).BodyObligation defs₀ 𝒱₀ (none : HIx 1) Set.univ := fun t Y hY => by
  rw [bigSep_W2, bigSep_W2, row2]
  have e0 := found2_0 V n t _ (hY 0)
  have e1 := found2_1 V n t _ (hY 1)
  have e2 := found2_2 V n t _ (hY 2)
  obtain ⟨d, e3⟩ := found2_3 V n t _ (hY 3)
  have e4 := found2_4 V n t _ (hY 4)
  rw [show (rd2 c V n).Φ t.succ = (rd2 c V n).Φ t.castSucc from rfl,
    show (rd2 c V n).owesAt none t.succ = (rd2 c V n).owesAt none t.castSucc from rfl]
  unfold bodyAt2
  iintro ⟨HΦ, Ho, H0, H1, H2, H3, H4, H5⟩
  iapply (run2 c (grid2.coords t) _ _ _ _ _ _ _ _ _ _ _ _ (Y 0) (Y 1) (Y 2) (Y 3) (Y 4) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro
  refine ⟨d, ?_⟩
  show outVec (Y 2) (Y 3) (Y 0) (Y 1) (Y 4) = outAt V d
  rw [e0, e1, e2, e3, e4]; rfl

theorem whole2 : (cfg2.win 5).WholeAt t2_0 := by decide +kernel

/-- The result array ends at the two words, for some contents of the rows past the memory's end. -/
theorem final2_5 (G) (h : (rd2 c V n).ArrAt 5 cfg2.N G) : ∃ d, G = outAt V d := by
  obtain ⟨X, ⟨_, -, d, hX⟩, hG⟩ := h.emb_eq_of_wholeAt whole2
  refine ⟨d, funext fun j => ?_⟩
  exact (hG j).trans (by rw [hX]; rfl)

end Cert.Proof.K

end
-- ==== Proof.Sc.lean ====
/-
  The SparseCore call: every tile copies its 32 of the 1024 indices, streams the rows of the bank they name into its
  own memory and copies these rows out. One proof at a symbolic tile, with the rows it leaves; the split of the three
  arrays among the 32 tiles and the join of the rows.
-/
module

public import proofs.«01_k».proof.Proof.Common

@[expose] public section

set_option maxRecDepth 16384

noncomputable section

namespace Cert.Proof.K

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

/-! ## The arrays as a tile addresses them, and their parts -/

abbrev iV : Memref sig .scVector .hbm S1024 .i32 := Memref.whole main_arg1_scv
abbrev xV : Memref sig .scVector .hbm S100000x128 .f32 := Memref.whole main_arg2_scv
abbrev oV : Memref sig .scVector .hbm S1024x128 .f32 := Memref.whole main_v1_scv
abbrev sV : Memref sig .scVector .vmem S32 .i32 := Memref.whole cc1_scratch0
abbrev rV : Memref sig .scVector .vmem S32x128 .f32 := Memref.whole cc1_scratch1

theorem idiv : 32 ∣ S1024.size 0 := ⟨32, rfl⟩
theorem odiv : 32 ∣ S1024x128.size 0 := ⟨32, rfl⟩
/-- Part `k` of the indices and of the gathered rows: entries `32 k … 32 k + 31`. -/
abbrev ipart (k : Fin 32) : Rect S1024 := Rect.part (s := S1024) (a₀ := 0) idiv k
abbrev opart (k : Fin 32) : Rect S1024x128 := Rect.part (s := S1024x128) (a₀ := 0) odiv k
abbrev iSet (k : Fin 32) : Finset S1024.Idx := (iV.view.slice (ipart k)).set
abbrev oSet (k : Fin 32) : Finset S1024x128.Idx := (oV.view.slice (opart k)).set

/-- The tiles, numbered as the parts are: tile `i` of SparseCore `c` has part `2 i + c`. -/
def tileEquiv : Fin 2 × Fin 16 ≃ Fin 32 where
  toFun p := ⟨2 * p.2.val + p.1.val, by omega⟩
  invFun k := (⟨k.val % 2, by omega⟩, ⟨k.val / 2, by omega⟩)
  left_inv p := by
    rcases p with ⟨c, i⟩
    refine Prod.ext (Fin.ext ?_) (Fin.ext ?_) <;> simp only <;> omega
  right_inv k := Fin.ext (by simp only; omega)

/-- Part `k`'s share of the bank. -/
abbrev xq (k : Fin 32) : PosShare TreeShare := pieceOf fullShare 32 (by decide) k

abbrev iPart (d : Dev nD) (k : Fin 32) : sProp 𝕄 := iLoc d ↦[iSet k]{fullShare} m (iLoc d)
abbrev xPart (d : Dev nD) (k : Fin 32) : sProp 𝕄 := xLoc d ↦{xq k} m (xLoc d)
abbrev oPart (d : Dev nD) (k : Fin 32) (f : Buf (Elt F) (oLoc d)) : sProp 𝕄 := oLoc d ↦[oSet k]{fullShare} f

/-- What a tile takes: its indices, its share of the bank, its part of the result as launched. -/
abbrev goPts (d : Dev nD) (k : Fin 32) : sProp 𝕄 := iprop(iPart m d k ∗ xPart m d k ∗ oPart d k (m (oLoc d)))
/-- What it hands back: the same, its part of the result holding the gathered rows. -/
abbrev tdPts (d : Dev nD) (k : Fin 32) : sProp 𝕄 := iprop(iPart m d k ∗ xPart m d k ∗ oPart d k (gathered m d))

/-- The part of tile `i` of SparseCore `c` of the call. -/
abbrev tileOf (c : Fin ((SC (F := F)).nCore 0)) (i : Fin ((SC (F := F)).nSub 0)) : Fin 32 :=
  tileEquiv (Fin.cast nCore_zero c, Fin.cast nSub_zero i)

variable [FloatOps F] [Named F]

/-- What the handshakes carry: a tile its part and back; a SparseCore its sixteen tiles' parts. -/
def P : (SC (F := F)).Pay (nD := nD) (Val := Elt F) (Name := ℕ) (U := UU) where
  st := fun q d c => match q with
    | 0 => bigSep Finset.univ fun i : Fin ((SC (F := F)).nSub 0) => goPts m d (tileOf c i)
  dn := fun q d c => match q with
    | 0 => bigSep Finset.univ fun i : Fin ((SC (F := F)).nSub 0) => tdPts m d (tileOf c i)
  go := fun q d c i => match q with | 0 => goPts m d (tileOf c i)
  td := fun q d c i => match q with | 0 => tdPts m d (tileOf c i)
  x := fun _ _ => iprop(emp)

instance P_storable : (P (F := F) m).IsStorable where
  st q d c := match q with
    | 0 => (inferInstance : BI.Storable (upEmb : UEmb _ 𝕄) (bigSep Finset.univ fun i : Fin ((SC (F := F)).nSub 0) => goPts m d (tileOf c i)))
  dn q d c := match q with
    | 0 => (inferInstance : BI.Storable (upEmb : UEmb _ 𝕄) (bigSep Finset.univ fun i : Fin ((SC (F := F)).nSub 0) => tdPts m d (tileOf c i)))
  go q d c i := match q with
    | 0 => (inferInstance : BI.Storable (upEmb : UEmb _ 𝕄) (goPts m d (tileOf c i)))
  td q d c i := match q with
    | 0 => (inferInstance : BI.Storable (upEmb : UEmb _ 𝕄) (tdPts m d (tileOf c i)))

theorem vecSplit : (SC (F := F)).VecSplit' (P m) 0 := by
  intro d c
  show (bigSep Finset.univ fun i : Fin ((SC (F := F)).nSub 0) => goPts m d (tileOf c i)) ⊢ |={Set.univ}=> iprop(
      (bigSep Finset.univ fun i : Fin ((SC (F := F)).nSub 0) => goPts m d (tileOf c i))
      ∗ ((bigSep Finset.univ fun i : Fin ((SC (F := F)).nSub 0) => tdPts m d (tileOf c i))
          -∗ (bigSep Finset.univ fun i : Fin ((SC (F := F)).nSub 0) => tdPts m d (tileOf c i))))
  iintro H; imodintro
  isplitl [H]; · iexact H
  iintro H; iexact H

/-! ## The task of one tile -/

section Tile

variable (d : Dev nD) (L : grid1.Coords)

abbrev cV (L : grid1.Coords) : Fin τ.nSC := (L 0).castLE hcore1
abbrev jV (L : grid1.Coords) : Fin τ.nSub := (L 1).castLE hsub1
omit [FloatOps F] [Named F] in
theorem bound1_0 : grid1.bound 0 = 2 := rfl
omit [FloatOps F] [Named F] in
theorem bound1_1 : grid1.bound 1 = 16 := rfl
abbrev kL (L : grid1.Coords) : Fin 32 := tileEquiv (Fin.cast bound1_0 (L 0), Fin.cast bound1_1 (L 1))

abbrev irectK (L : grid1.Coords) : Rect S1024 := Rect.unit (s := S1024) (k1_off1 L) S32.size (k1_off1_inb L)
abbrev orectK (L : grid1.Coords) : Rect S1024x128 := Rect.unit (s := S1024x128) (k1_off2 L) S32x128.size (k1_off2_inb L)
abbrev iK (L : grid1.Coords) : Memref sig .scVector .hbm S32 .i32 := iV.slice (irectK L) (fun _ => rfl)
abbrev oK (L : grid1.Coords) : Memref sig .scVector .hbm S32x128 .f32 := oV.slice (orectK L) (fun _ => rfl)
abbrev xK : Memref sig .scVector .hbm S100000x128 .f32 :=
  xV.slice (Rect.unit (s := S100000x128) ![0, 0] S100000x128.size inb_S100000x128_S100000x128_0_0) (fun _ => rfl)

omit [FloatOps F] [Named F] in
theorem irectK_eq : irectK L = ipart (kL L) := by
  unfold irectK ipart Rect.part Rect.block
  congr 1 <;> funext a
  · rw [k1_off1_eq]
    match a with
    | 0 => simp only [Shape.partIx, Shape.partSize, kL, tileEquiv, Equiv.coe_fn_mk, Fin.coe_cast, Fin.val_cast]; simp; omega
  · match a with
    | 0 => simp [Shape.partSize]
omit [FloatOps F] [Named F] in
theorem orectK_eq : orectK L = opart (kL L) := by
  unfold orectK opart Rect.part Rect.block
  congr 1 <;> funext a
  · rw [k1_off2_eq]
    match a with
    | 0 => simp only [Shape.partIx, Shape.partSize, kL, tileEquiv, Equiv.coe_fn_mk, Fin.coe_cast, Fin.val_cast]; simp; omega
    | 1 => simp [Shape.partIx, Shape.partSize]
  · match a with
    | 0 => simp [Shape.partSize]
    | 1 => simp [Shape.partSize]

omit [FloatOps F] [Named F] in
theorem set_iK : (iK L).view.set = iSet (kL L) := by
  show (iV.view.slice (irectK L)).set = (iV.view.slice (ipart (kL L))).set
  exact irectK_eq L ▸ rfl
omit [FloatOps F] [Named F] in
theorem set_oK : (oK L).view.set = oSet (kL L) := by
  show (oV.view.slice (orectK L)).set = (oV.view.slice (opart (kL L))).set
  exact orectK_eq L ▸ rfl

omit [FloatOps F] [Named F] in
theorem pts_iK (f : Buf (Elt F) (iLoc d)) :
    ((iK L).view.loc (V d (cV L) (jV L)) ↦[(iK L).view.set]{fullShare} f : sProp 𝕄) = iLoc d ↦[iSet (kL L)]{fullShare} f := by
  rw [set_iK]
omit [FloatOps F] [Named F] in
theorem pts_oK (f : Buf (Elt F) (oLoc d)) :
    ((oK L).view.loc (V d (cV L) (jV L)) ↦[(oK L).view.set]{fullShare} f : sProp 𝕄) = oLoc d ↦[oSet (kL L)]{fullShare} f := by
  rw [set_oK]
omit [FloatOps F] [Named F] in
theorem pts_xV (q : PosShare TreeShare) (f : Buf (Elt F) (xLoc d)) :
    (xV.view.loc (V d (cV L) (jV L)) ↦{q} f : sProp 𝕄) = xLoc d ↦{q} f := rfl
omit [FloatOps F] [Named F] in
theorem pts_sV (f : Buf (Elt F) ((V d (cV L) (jV L)).loc cc1_scratch0)) :
    (sV.view.loc (V d (cV L) (jV L)) ↦{fullShare} f : sProp 𝕄) = (V d (cV L) (jV L)).loc cc1_scratch0 ↦{fullShare} f := rfl
omit [FloatOps F] [Named F] in
theorem pts_rV (f : Buf (Elt F) ((V d (cV L) (jV L)).loc cc1_scratch1)) :
    (rV.view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] [Named F] in
/-- The tile's three DMA cells are among its own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] [Named F] in
/-- The tile's two scratch buffers are among its own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] [Named F] in
/-- The list a tile has fetched: the launch's indices at its part. -/
theorem list_eq (fs : Buf (Elt F) ((V d (cV L) (jV L)).loc cc1_scratch0)) (pay : S32.Idx → Elt F .i32)
    (hpay : pay = (iK L).view.read (Elt F) (m (iLoc d))) (x : S32.Idx) :
    sV.view.read (Elt F) (View.write (Elt F) sV.view fs pay Finset.univ) x = m (iLoc d) ((iK L).view.emb x) := by
  subst hpay
  rw [View.write_whole_univ]
  simp only [Memref.view_whole, View.read_whole]
  exact (View.read_apply _ _).trans (cast_eq _ _)

omit [FloatOps F] [Named F] in
/-- The rows the fetched list names are rows of the bank. -/
theorem inb_of_pre (hpre : PreOK m) (fs : Buf (Elt F) ((V d (cV L) (jV L)).loc cc1_scratch0)) (pay : S32.Idx → Elt F .i32)
    (hpay : pay = (iK L).view.read (Elt F) (m (iLoc d))) :
    ∀ x, (sV.view.read (Elt F) (View.write (Elt F) sV.view fs pay Finset.univ) x).toNat < S100000x128.size gathers_S100000x128_S32x128.axis := by
  intro x
  rw [list_eq m d L fs pay hpay x]
  exact hpre d _

omit [FloatOps F] [Named F] in
/-- The rows gathered at a tile's part are the gathered rows there. -/
theorem out_eq (hpre : PreOK m) (fs : Buf (Elt F) ((V d (cV L) (jV L)).loc cc1_scratch0)) (pay : S32.Idx → Elt F .i32)
    (hpay : pay = (iK L).view.read (Elt F) (m (iLoc d))) (h) (out : S32x128.Idx → Elt F .f32) (f : Buf (Elt F) (oLoc d))
    (hf : (oK L).view.read (Elt F) f = out)
    (hout : out = SparseCore.gatherPayload gathers_S100000x128_S32x128 (xK.view.read (Elt F) (m (xLoc d)))
      (SparseCore.rows (sV.view.read (Elt F) (View.write (Elt F) sV.view fs pay Finset.univ)) rfl h)) :
    ∀ i ∈ (oK L).view.set, f i = gathered m d i := by
  intro i hi
  obtain ⟨x, -, rfl⟩ := Finset.mem_map.mp hi
  have e : f ((oK L).view.emb x) = out x := by rw [← hf]; exact ((View.read_apply _ _).trans (cast_eq _ _)).symm
  refine e.trans ?_
  rw [hout]
  unfold SparseCore.gatherPayload gathered
  refine ((View.read_apply _ _).trans (cast_eq _ _)).trans ?_
  have hlist := list_eq m d L fs pay hpay (S32.rowMajor.symm ((x 0 : Fin 32).cast rfl))
  have hix : (iK L).view.emb (S32.rowMajor.symm ((x 0 : Fin 32).cast rfl)) = (fun | 0 => ((oK L).view.emb x 0 : Fin 1024) : S1024.Idx) := by
    funext a
    match a with
    | 0 =>
      refine Fin.ext ?_
      have h1 : ((S32.rowMajor.symm ((x 0 : Fin 32).cast rfl)) 0).val = (x 0).val := by
        rw [← Shape.rowMajor_val_one]; exact congrArg Fin.val (Equiv.apply_symm_apply S32.rowMajor _)
      show k1_off1 L 0 + 1 * ((S32.rowMajor.symm ((x 0 : Fin 32).cast rfl)) 0).val = k1_off2 L 0 + 1 * (x 0).val
      rw [h1, k1_off1_eq, k1_off2_eq]; rfl
  refine congrArg (m (xLoc d)) (funext fun a => Fin.ext ?_)
  match a with
  | 0 =>
    have h2 : ((sV.view.read (Elt F) (View.write (Elt F) sV.view fs pay Finset.univ)) (S32.rowMajor.symm ((x 0 : Fin 32).cast rfl))).toNat
        = (rowIx (m (iLoc d) (fun | 0 => ((oK L).view.emb x 0 : Fin 1024) : S1024.Idx))).val := by
      rw [hlist, hix]; exact (Nat.mod_eq_of_lt (hpre d _)).symm
    refine Eq.trans ?_ h2
    show 0 + 1 * _ = _
    rw [Nat.one_mul, Nat.zero_add]
    rfl
  | 1 =>
    show 0 + 1 * (x 1).val = k1_off2 L 1 + 1 * (x 1).val
    rw [k1_off2_eq]; rfl

set_option maxHeartbeats 4000000 in
/-- The task on tile `(L 0, L 1)` of device `d`: the copy of the indices, the stream of the rows they name, the copy out. -/
theorem tile_body (hF : (SC (F := F)).Facts) (hpre : PreOK m) (O : CellTallies nD τ sig (HIx 1)) (W : Waits sig (HIx 1)) (hO : ∀ g, O g none = 0) :
    iprop(levAts (SC (F := F)).L (SC (F := F)).lev ∗ emp
        ∗ goPts m d (kL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_body L xV (Memref.isWhole_whole _) iV (Memref.isWhole_whole _) oV (Memref.isWhole_whole _)
            sV (Memref.isWhole_whole _) rV (Memref.isWhole_whole _) cc1_scratch2 cc1_scoped0 cc1_scoped1)
          fun _ => iprop(tdPts m d (kL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_body_eq_skeleton]; unfold cc1_body_skel
  rw [(SC (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (SC (F := F)).L (SC (F := F)).lev ⊢ Transfers.MayWaits (V d (cV L) (jV L)) (default : HIx 1) O from
    (SC (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := xq (kL L)) (f := m (xLoc d)) (S := Finset.univ) (Finset.subset_univ xK.view.set)).1 $$ Hx'
  icases Hxs with ⟨Hxs, Hxr⟩
  have hrs : rV.view.set = Finset.univ := View.set_whole _
  have hss : sV.view.set = Finset.univ := View.set_whole _
  ihave Hr'' := (Entails.of_eq (show (rV.view.loc (V d (cV L) (jV L)) ↦{fullShare} fr : sProp 𝕄)
      = rV.view.loc (V d (cV L) (jV L)) ↦[rV.view.set]{fullShare} fr by rw [hrs])) $$ Hr'
  ihave Hs'' := (Entails.of_eq (show (sV.view.loc (V d (cV L) (jV L)) ↦{fullShare} View.write (Elt F) sV.view fs (tile_body.sl.dma0 m d L) Finset.univ : sProp 𝕄)
      = sV.view.loc (V d (cV L) (jV L)) ↦[sV.view.set]{fullShare} View.write (Elt F) sV.view fs (tile_body.sl.dma0 m d L) Finset.univ
      by rw [hss])) $$ Hs'
  have hN : ∀ h : S100000x128.Gathers 0 S32x128, ∑ j, (rV.slice (S32x128.rowRect h.axis' j) (S32x128.stride_rowRect h.axis' j)).view.dmaCredit
      = rV.view.dmaCredit := by decide
  have hin := inb_of_pre m d L hpre fs (tile_body.sl.dma0 m d L) rfl
  iapply (SparseCore.wp_indirectGatherLocal countersEmb 𝒱₀ (V d (cV L) (jV L)) none (hg := gathers_S100000x128_S32x128) (default : HIx 1)
      rV.view.dmaCredit (hN _) (by decide) hin) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hx' := (pointsTo_split_subset (q := xq (kL L)) (f := m (xLoc d)) (S := Finset.univ) (Finset.subset_univ xK.view.set)).2 $$ [Hxs Hxr]; · isplitl [Hxs] <;> iassumption
  ihave Hr3 := (Entails.of_eq (show (rV.view.loc (V d (cV L) (jV L)) ↦[rV.view.set]{fullShare} _ : sProp 𝕄)
      = rV.view.loc (V d (cV L) (jV L)) ↦{fullShare} _ by rw [hrs])) $$ Hr'
  ihave Hs3 := (Entails.of_eq (show (sV.view.loc (V d (cV L) (jV L)) ↦[sV.view.set]{fullShare} _ : sProp 𝕄)
      = sV.view.loc (V d (cV L) (jV L)) ↦{fullShare} _ by rw [hss])) $$ Hs'
  sl_exec
  sl_step
  isplitl [Hi' Hx' Ho']
  · isplitl [Hi']; · iapply (Entails.of_eq (pts_iK (F := F) d L _)); iexact Hi'
    isplitl [Hx']; · iexact Hx'
    iapply (Entails.of_eq (pts_oK (F := F) d L _))
    iapply (Entails.of_eq (pointsTo_congr (out_eq m d L hpre fs (tile_body.sl.dma0 m d L) rfl hin (tile_body.sl.dma0_1 m d L fs fr hin) _
      (View.read_writes_whole _ _ _) (View.read_write_univ _ _)))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_body (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, as the launch theorem asks for it. -/
theorem tileObl (hF : (SC (F := F)).Facts) (hpre : PreOK m) : (SC (F := F)).TileObl (D (F := F)) 𝒱 (P m) v₀ 0 := by
  intro d c i O W hO _ _
  simp only [show (P m).ox = fun _ _ => 0 from rfl, add_zero]
  have hci : ((SC (F := F)).core 0 c).val < grid1.bound 0 ∧ ((SC (F := F)).sub 0 i).val < grid1.bound 1 := ⟨c.isLt, i.isLt⟩
  change _ ⊢ wp _ _ _ (Pipeline.liftProg (defs₀ (F := F) (.scVector ((SC (F := F)).core 0 c) ((SC (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## The arrays split among the tiles, and the rows join -/

omit [FloatOps F] [Named F] in
theorem iSet_eq (k : Fin 32) : iSet k = (ipart k).set := by
  show ((View.whole (main_arg1_scv : Ref sig .scVector)).slice (ipart k)).set = _
  rw [View.set_slice]; exact Finset.map_refl
omit [FloatOps F] [Named F] in
theorem oSet_eq (k : Fin 32) : oSet k = (opart k).set := by
  show ((View.whole (main_v1_scv : Ref sig .scVector)).slice (opart k)).set = _
  rw [View.set_slice]; exact Finset.map_refl

omit [FloatOps F] [Named F] in
/-- The indices whole are their 32 parts. -/
theorem i_parts (d : Dev nD) (f : Buf (Elt F) (iLoc d)) :
    (iLoc d ↦{fullShare} f : sProp 𝕄) = bigSep Finset.univ fun k : Fin 32 => iLoc d ↦[iSet k]{fullShare} f := by
  rw [← pointsTo_biUnion Finset.univ (ℓ := iLoc d) iSet
      (fun i _ j _ h => by rw [iSet_eq, iSet_eq]; exact Rect.part_disjoint idiv h),
    show (Finset.univ : Finset (Fin 32)).biUnion iSet = Finset.univ from
      (Finset.biUnion_congr rfl fun i _ => iSet_eq i).trans (Rect.biUnion_part idiv)]
  try rfl
omit [FloatOps F] [Named F] in
/-- The result whole is its 32 parts. -/
theorem o_parts (d : Dev nD) (f : Buf (Elt F) (oLoc d)) :
    (oLoc d ↦{fullShare} f : sProp 𝕄) = bigSep Finset.univ fun k : Fin 32 => oLoc d ↦[oSet k]{fullShare} f := by
  rw [← pointsTo_biUnion Finset.univ (ℓ := oLoc d) oSet
      (fun i _ j _ h => by rw [oSet_eq, oSet_eq]; exact Rect.part_disjoint odiv h),
    show (Finset.univ : Finset (Fin 32)).biUnion oSet = Finset.univ from
      (Finset.biUnion_congr rfl fun i _ => oSet_eq i).trans (Rect.biUnion_part odiv)]
  try rfl
omit [FloatOps F] [Named F] in
/-- The bank at the full share is its 32 shares. -/
theorem x_parts (d : Dev nD) (f : Buf (Elt F) (xLoc d)) :
    (xLoc d ↦{fullShare} f : sProp 𝕄) = bigSep Finset.univ fun k : Fin 32 => xLoc d ↦{xq k} f :=
  pointsTo_piecesOf Finset.univ f (by decide) fullShare

omit [FloatOps F] [Named F] in
/-- A resource per part is one per tile of each SparseCore. -/
theorem bigSep_tiles (Φ : Fin 32 → sProp 𝕄) :
    (bigSep Finset.univ fun c : Fin ((SC (F := F)).nCore 0) => bigSep Finset.univ fun i : Fin ((SC (F := F)).nSub 0) => Φ (tileOf c i))
      = bigSep Finset.univ Φ := by
  rw [bigSep_univ_equiv tileEquiv Φ, bigSep_univ_prod]
  rfl

/-- What the call takes of all SparseCores: the indices, the bank, and the result as launched. -/
theorem st0_eq (d : Dev nD) : (bigSep Finset.univ fun c : Fin ((SC (F := F)).nCore 0) => (P m).st 0 d c)
    = iprop((iLoc d ↦{fullShare} m (iLoc d)) ∗ (xLoc d ↦{fullShare} m (xLoc d)) ∗ oLoc d ↦{fullShare} m (oLoc d)) := by
  refine (bigSep_tiles (F := F) (fun k => goPts m d k)).trans ?_
  rw [bigSep_sep', bigSep_sep', ← i_parts, ← x_parts, ← o_parts]
/-- What it brings back: the same, the result holding the gathered rows. -/
theorem dn0_eq (d : Dev nD) : (bigSep Finset.univ fun c : Fin ((SC (F := F)).nCore 0) => (P m).dn 0 d c)
    = iprop((iLoc d ↦{fullShare} m (iLoc d)) ∗ (xLoc d ↦{fullShare} m (xLoc d)) ∗ oLoc d ↦{fullShare} gathered m d) := by
  refine (bigSep_tiles (F := F) (fun k => tdPts m d k)).trans ?_
  rw [bigSep_sep', bigSep_sep', ← i_parts, ← x_parts, ← o_parts]

end Cert.Proof.K

end
-- ==== Proof.Region.lean ====
/-
  The two TensorCore pipelines as steps of @main: each entered from every unscoped buffer at some contents and left
  with the pipeline's result arrays at their final values.
-/
module

public import proofs.«01_k».proof.Proof.Finish
public import proofs.«01_k».proof.Proof.Sc
public import Idealize.ShloMosaic.Lib.Pipeline.RegionArrays

@[expose] public section

noncomputable section

namespace Cert.Proof.K

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MM F

variable (m : (ℓ : Loc nD τ sig) → Buf (Elt F) ℓ)

/-! ## The buffers' contents along @main -/

/-- A core's buffers at the launch, -/
def V0 (c : Dev nD) : Cont F c := fun b => m ((c.tc : Thread nD τ).loc b)
/-- after the streaming pipeline, -/
def V1 (c : Dev nD) : Cont F c :=
  Function.update (Function.update (Function.update (V0 m c) main_v0_0 (accAt (V0 m c) 5)) main_v0_1 (zn (V0 m c))) main_v0_2 (znb (V0 m c))
/-- after the gather, -/
def V2 (c : Dev nD) : Cont F c := Function.update (V1 m c) main_v1 (gathered m c)
/-- and after the finishing pipeline, whose block past the memory's end held `d`. -/
def V3 (c : Dev nD) (d : Vec F S2048x128 .f32) : Cont F c := Function.update (V2 m c) main_v2 (outAt (V2 m c) d)

/-- No pipeline prefetches a table. -/
abbrev adm : (p : Fin 2) → (pcfgs (F := F) p).Adm := fun p => (cfgs p).toPCfg_adm

/-- Both pipelines' proof data: the first before the gather, the second after it. -/
def rdats : (p : Fin 2) → (c : Dev nD) → RDat τ (Elt F) (HIx 1) ℕ UU ℕ (Pipeline.pin (pcfgs (F := F)) adm p) c
  | ⟨0, _⟩ => fun c => rd0 c (V0 m c) 0
  | ⟨1, _⟩ => fun c => rd2 c (V2 m c) 1

/-! ## Leaving a pipeline -/

theorem V1_ne (c : Dev nD) {b : Ref sig .tc} (h : b ≠ main_v0_0 ∧ b ≠ main_v0_1 ∧ b ≠ main_v0_2) : V1 m c b = V0 m c b := by
  unfold V1
  rw [Function.update_of_ne h.2.2, Function.update_of_ne h.2.1, Function.update_of_ne h.1]
theorem V1_acc (c : Dev nD) : V1 m c main_v0_0 = accAt (V0 m c) 5 := by
  unfold V1
  rw [Function.update_of_ne (by decide), Function.update_of_ne (by decide), Function.update_self]
theorem V1_zn (c : Dev nD) : V1 m c main_v0_1 = zn (V0 m c) := by
  unfold V1
  rw [Function.update_of_ne (by decide), Function.update_self]
theorem V1_znb (c : Dev nD) : V1 m c main_v0_2 = znb (V0 m c) := by
  unfold V1
  rw [Function.update_self]
theorem V2_ne (c : Dev nD) {b : Ref sig .tc} (h : b ≠ main_v1) : V2 m c b = V1 m c b := Function.update_of_ne h _ _
theorem V2_rows (c : Dev nD) : V2 m c main_v1 = gathered m c := Function.update_self _ _ _
theorem V3_ne (c : Dev nD) (d) {b : Ref sig .tc} (h : b ≠ main_v2) : V3 m c d b = V2 m c b := Function.update_of_ne h _ _
theorem V3_out (c : Dev nD) (d) : V3 m c d main_v2 = outAt (V2 m c) d := Function.update_self _ _ _

/-- The buffers behind no window's array, at contents that agree there. -/
theorem rest_congr {gr W : Nat} (win : Fin W → Pipeline.WinSpec sig gr) (c : Dev nD) (V V' : Cont F c)
    (h : ∀ b, b ∉ Finset.univ.image (Pipeline.arrRef win) → V b = V' b) :
    (Pipeline.unscopedRest win c V : sProp 𝕄) = Pipeline.unscopedRest win c V' := by
  unfold Pipeline.unscopedRest
  exact bigSep_congr fun b hb => by rw [h b (Finset.mem_sdiff.mp hb).2]

/-- The arrays a pipeline leaves, read back as whole buffers: if the contents its arrays may hold at the end are always
    those of one of the contents `V' i`, then the buffers are at one of those. -/
theorem leave {cfg : Cfg sig Λ₀} {c : Dev nD} (rd : RDat τ (Elt F) (HIx 1) ℕ UU ℕ cfg c) (hin : Pipeline.SharedIn cfg.spec)
    (harr : ∀ w, (cfg.spec w).arr.IsWhole) (hq : ∀ w, (cfg.spec w).isOut = false → rd.q w = Pipeline.shareOf cfg.spec w)
    {J : Type} (V' : J → Cont F c)
    (h : ∀ G : (w : Fin cfg.W) → Buf (Elt F) ((cfg.spec w).arr.view.loc (c.tc : Thread nD τ)),
      (∀ w, rd.ArrAt w cfg.N (G w)) → ∃ i, ∀ w, G w = V' i (Pipeline.arrRef cfg.spec w)) :
    rd.arraysAt cfg.N ⊢ (iprop(∃ i, Pipeline.arrBufs cfg.spec c (V' i)) : sProp 𝕄) := by
  unfold RDat.arraysAt
  refine (BI.bigSep_exists_pi _ _).trans ?_
  iintro ⟨%G, H⟩
  ihave H := (BI.bigSep_pure_sep _ _ _) $$ H
  icases H with ⟨%hG, H⟩
  obtain ⟨i, hi⟩ := h G fun w => hG w (Finset.mem_univ w)
  iexists i
  rw [rd.arrBufs_eq_arrays hin harr hq (V' i) G hi]
  unfold RDat.arrays
  iexact H

/-- An input window's array holds what it did on entry. -/
theorem arr_in {cfg : Cfg sig Λ₀} {c : Dev nD} (rd : RDat τ (Elt F) (HIx 1) ℕ UU ℕ cfg c) (w : Fin cfg.W) (hin : (cfg.win w).isOut = false) (n : ℕ)
    (G : Buf (Elt F) ((cfg.win w).arr.view.loc (c.tc : Thread nD τ))) (h : rd.ArrAt w n G) : G = rd.A w := by
  rw [rd.ArrAt_in w hin n] at h; exact h

/-- What a core owes and has recorded on entry to a pipeline, -/
theorem owes_in (c : Dev nD) (n : ℕ) {B : Set (SemLoc sig × HIx 1)} (hB : recTo F c n ⊆ B) :
    iprop(∃ W, ⌜(SC (F := F)).WBelow (SparseCore.T c) W (8 * n)⌝ ∗ owes (SparseCore.T c : Thread nD τ) ((SC (F := F)).Otc c n) W)
      ⊢ (Pipeline.owesWithin c ((SC (F := F)).Otc c n) B : sProp 𝕄) := by
  iintro ⟨%W, %hW, H⟩
  iexists W
  isplitr
  · ipureintro; exact fun p hp => hB (hW p hp)
  iexact H

/-- and on leaving it. -/
theorem owes_out (c : Dev nD) (n : ℕ) {B : Set (SemLoc sig × HIx 1)} (hB : ∀ p ∈ B, p ∈ recTo F c n ∨ p.2 = none) :
    (Pipeline.owesWithin c ((SC (F := F)).Otc c n) B : sProp 𝕄)
      ⊢ iprop(∃ W, ⌜(SC (F := F)).WBelow (SparseCore.T c) W (8 * n)⌝ ∗ owes (SparseCore.T c : Thread nD τ) ((SC (F := F)).Otc c n) W) := by
  iintro ⟨%W, %hW, H⟩
  iexists W
  isplitr
  · ipureintro
    intro p hp
    rcases hB p (hW hp) with h | h
    · exact h
    · rw [h, SparseCore.Cfg.lev_none]; exact Nat.zero_le _
  iexact H

/-- A core owes nothing at the pipelines' index. -/
theorem owed_none (c : Dev nD) (n : ℕ) (g : GSem nD τ sig) : (SC (F := F)).Otc c n g (none : HIx 1) = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun k _ => ?_
    unfold tallyAt tallyOn
    by_cases h : g = (SC (F := F)).startCell c ((SC (F := F)).core q k)
    · subst h; simp
    · simp [h]
  · rfl

/-- The thread state between the steps: what the core owes, and every unscoped buffer at contents `V`. -/
abbrev State (c : Dev nD) (n : ℕ) (V : Cont F c) : sProp 𝕄 :=
  iprop((∃ W, ⌜(SC (F := F)).WBelow (SparseCore.T c) W (8 * n)⌝ ∗ owes (SparseCore.T c : Thread nD τ) ((SC (F := F)).Otc c n) W) ∗ unscopedBufs c V)

/-! ## The streaming pipeline -/

/-- The streaming pipeline, entered at the launch contents and left with the accumulator and the two row arrays. -/
def seg0 : RDat.RegionSeg (pcfgs (F := F)) adm (rdats m) (none : HIx 1) defs₀ 𝒱₀ (SC (F := F)).L (SC (F := F)).lev 0 where
  win := winFacts₀0
  block_pos := block_pos0
  stage_whole := stage_whole0
  K := PEmpty
  osem k := k.elim
  ho := Pipeline.OwnSemFacts.none _
  hbody c := body0 c (V0 m c) 0
  hwaits c := RDat.cellsWaits_intro _ _ _ _ _ fun w s t => (SC (F := F)).mayWait_none _ (owed_none c 0)
  pre c := State c 0 (V0 m c)
  post c := State c 0 (V1 m c)
  X _ := BI.emp
  Y _ := BI.emp
  Z c := Pipeline.unscopedRest (Ix := HIx 1) (Name := ℕ) (U := UU) (Lvl := ℕ) spec0 c (V0 m c)
  hentry c := by
    rw [Pipeline.ownSems0_none, Pipeline.prefHeld_of_none _ rfl]
    iintro ⟨⟨Ho, Hub⟩, -, -⟩
    ihave H := (Entails.of_eq (Pipeline.unscopedBufs_split₀ cfgs 0 winFacts₀0.arr_unscoped c (V0 m c))) $$ Hub
    icases H with ⟨Ha, Hrest⟩
    imodintro
    isplitl [Ha]
    · iapply (Entails.of_eq ((rd0 c (V0 m c) 0).arrBufs_eq_arrays sharedIn0 arr_whole0 (fun _ _ => rfl) (V0 m c) _ fun _ => rfl)); iexact Ha
    isplitr; · iempintro
    isplitl [Ho]
    · iapply (owes_in c 0 Set.subset_union_left); iexact Ho
    isplitr; · iempintro
    iexact Hrest
  hin c := by
    rw [show (rdats m 0 c).Φ 0 = Pipeline.scopedRest spec0 c from rfl]
    iintro ⟨-, -, Hr⟩; iexact Hr
  hout c := by
    rw [Pipeline.ownSems0_none, show (rdats m 0 c).Φ (Fin.last _) = Pipeline.scopedRest spec0 c from rfl]
    iintro Hr
    isplitr; · iempintro
    isplitr; · iempintro
    iexact Hr
  hexit c := by
    have hleave := leave (rd0 c (V0 m c) 0) sharedIn0 arr_whole0 (fun _ _ => rfl) (fun _ : Unit => V1 m c) fun G hG => ⟨(), fun
      | ⟨0, _⟩ => (arr_in _ 0 rfl _ _ (hG 0)).trans (V1_ne m c (by decide)).symm
      | ⟨1, _⟩ => (arr_in _ 1 rfl _ _ (hG 1)).trans (V1_ne m c (by decide)).symm
      | ⟨2, _⟩ => (arr_in _ 2 rfl _ _ (hG 2)).trans (V1_ne m c (by decide)).symm
      | ⟨3, _⟩ => (arr_in _ 3 rfl _ _ (hG 3)).trans (V1_ne m c (by decide)).symm
      | ⟨4, _⟩ => (arr_in _ 4 rfl _ _ (hG 4)).trans (V1_ne m c (by decide)).symm
      | ⟨5, _⟩ => (arr_in _ 5 rfl _ _ (hG 5)).trans (V1_ne m c (by decide)).symm
      | ⟨6, _⟩ => (final0_6 (V0 m c) 0 _ (hG 6)).trans (V1_acc m c).symm
      | ⟨7, _⟩ => (final0_7 (V0 m c) 0 _ (hG 7)).trans (V1_zn m c).symm
      | ⟨8, _⟩ => (final0_8 (V0 m c) 0 _ (hG 8)).trans (V1_znb m c).symm⟩
    have hrest := rest_congr spec0 c (V0 m c) (V1 m c) fun b hb => (V1_ne m c
      ⟨by rintro rfl; exact hb (by decide), by rintro rfl; exact hb (by decide), by rintro rfl; exact hb (by decide)⟩).symm
    show iprop((rd0 c (V0 m c) 0).arraysAt cfg0.N ∗ (rd0 c (V0 m c) 0).owesAt none (Fin.last cfg0.N) ∗ BI.emp ∗ Pipeline.unscopedRest spec0 c (V0 m c)) ⊢ _
    iintro ⟨Ha, Ho, -, Hrest⟩
    ihave H := hleave $$ Ha
    icases H with ⟨%u, Ha⟩
    imodintro
    isplitl [Ho]
    · iapply (owes_out c 0 (B := (rd0 c (V0 m c) 0).bound none (Fin.last _)) fun p hp => Or.imp id (fun ⟨w, s, h⟩ => by rw [h]) hp); iexact Ho
    iapply (Entails.of_eq (Pipeline.unscopedBufs_split₀ cfgs 0 winFacts₀0.arr_unscoped c (V1 m c)).symm)
    isplitl [Ha]; · iexact Ha
    iapply (Entails.of_eq hrest); iexact Hrest

/-! ## The finishing pipeline -/

/-- The finishing pipeline, entered after the gather and left with the result, for some contents of its block's rows past
    the memory's end. -/
def seg1 : RDat.RegionSeg (pcfgs (F := F)) adm (rdats m) (none : HIx 1) defs₀ 𝒱₀ (SC (F := F)).L (SC (F := F)).lev 1 where
  win := winFacts2.to₀
  block_pos := block_pos2
  stage_whole := stage_whole2
  K := PEmpty
  osem k := k.elim
  ho := Pipeline.OwnSemFacts.none _
  hbody c := body2 c (V2 m c) 1
  hwaits c := RDat.cellsWaits_intro _ _ _ _ _ fun w s t => (SC (F := F)).mayWait_none _ (owed_none c 1)
  pre c := State c 1 (V2 m c)
  post c := iprop(∃ d, State c 1 (V3 m c d))
  X _ := BI.emp
  Y _ := BI.emp
  Z c := Pipeline.unscopedRest (Ix := HIx 1) (Name := ℕ) (U := UU) (Lvl := ℕ) spec2 c (V2 m c)
  hentry c := by
    rw [Pipeline.ownSems0_none, Pipeline.prefHeld_of_none _ rfl]
    iintro ⟨⟨Ho, Hub⟩, -, -⟩
    ihave H := (Entails.of_eq (Pipeline.unscopedBufs_split₀ cfgs 1 winFacts2.arr_unscoped c (V2 m c))) $$ Hub
    icases H with ⟨Ha, Hrest⟩
    imodintro
    isplitl [Ha]
    · iapply (Entails.of_eq ((rd2 c (V2 m c) 1).arrBufs_eq_arrays (Pipeline.SharedIn.of_injective winFacts2.arr_inj) arr_whole2 (fun _ _ => rfl) (V2 m c) _ fun _ => rfl)); iexact Ha
    isplitr; · iempintro
    isplitl [Ho]
    · iapply (owes_in c 1 Set.subset_union_left); iexact Ho
    isplitr; · iempintro
    iexact Hrest
  hin c := by
    rw [show (rdats m 1 c).Φ 0 = Pipeline.scopedRest spec2 c from rfl]
    iintro ⟨-, -, Hr⟩; iexact Hr
  hout c := by
    rw [Pipeline.ownSems0_none, show (rdats m 1 c).Φ (Fin.last _) = Pipeline.scopedRest spec2 c from rfl]
    iintro Hr
    isplitr; · iempintro
    isplitr; · iempintro
    iexact Hr
  hexit c := by
    have hleave := leave (rd2 c (V2 m c) 1) (Pipeline.SharedIn.of_injective winFacts2.arr_inj) arr_whole2 (fun _ _ => rfl) (V3 m c) fun G hG =>
      (final2_5 (V2 m c) 1 _ (hG 5)).imp fun d hd => fun
      | ⟨0, _⟩ => (arr_in _ 0 rfl _ _ (hG 0)).trans (V3_ne m c d (b := main_v0_0) (by decide)).symm
      | ⟨1, _⟩ => (arr_in _ 1 rfl _ _ (hG 1)).trans (V3_ne m c d (b := main_v0_1) (by decide)).symm
      | ⟨2, _⟩ => (arr_in _ 2 rfl _ _ (hG 2)).trans (V3_ne m c d (b := main_v0_2) (by decide)).symm
      | ⟨3, _⟩ => (arr_in _ 3 rfl _ _ (hG 3)).trans (V3_ne m c d (b := main_arg2) (by decide)).symm
      | ⟨4, _⟩ => (arr_in _ 4 rfl _ _ (hG 4)).trans (V3_ne m c d (b := main_v1) (by decide)).symm
      | ⟨5, _⟩ => hd.trans (V3_out m c d).symm
    have hrest := fun d => rest_congr spec2 c (V2 m c) (V3 m c d) fun b hb => (V3_ne m c d (by rintro rfl; exact hb (by decide))).symm
    show iprop((rd2 c (V2 m c) 1).arraysAt cfg2.N ∗ (rd2 c (V2 m c) 1).owesAt none (Fin.last cfg2.N) ∗ BI.emp ∗ Pipeline.unscopedRest spec2 c (V2 m c)) ⊢ _
    iintro ⟨Ha, Ho, -, Hrest⟩
    ihave H := hleave $$ Ha
    icases H with ⟨%d, Ha⟩
    imodintro
    iexists d
    isplitl [Ho]
    · iapply (owes_out c 1 (B := (rd2 c (V2 m c) 1).bound none (Fin.last _)) fun p hp => Or.imp id (fun ⟨w, s, h⟩ => by rw [h]) hp); iexact Ho
    iapply (Entails.of_eq (Pipeline.unscopedBufs_split₀ cfgs 1 winFacts2.arr_unscoped c (V3 m c d)).symm)
    isplitl [Ha]; · iexact Ha
    iapply (Entails.of_eq (hrest d)); iexact Hrest

end Cert.Proof.K

end
-- ==== Proof.Run.lean ====
/-
  The whole program's run: @main on the TensorCore calls the streaming pipeline, the SparseCore's gather, the finishing
  pipeline and the host's reshape; from the launch, every run keeps the arguments, leaves every semaphore at zero and
  ends with the result the finishing pipeline computes.
-/
module

public import proofs.«01_k».proof.Proof.Region

@[expose] public section

noncomputable section

namespace Cert.Proof.K

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MM F

variable (m : (ℓ : Loc nD τ sig) → Buf (Elt F) ℓ)

variable (ρ : Dev nD → PrngReg)

/-! ## The launch element of the ghost state -/

/-- The launch's ghost state: the handshakes' rounds and the pipelines'. -/
def u₀ : UU :=
  ((initOf (SC (F := F)).hsCells (SC (F := F)).hsToks, initOf (Pipeline.cells cfgs cellOf_inj) (Pipeline.launchToks cfgs cellOf_inj)), 1)

/-- What @main is given of it on core `d`: each pipeline's round cells and its transfers' tokens. -/
abbrev Ghost (d : Dev nD) : sProp 𝕄 :=
  iprop((bigSep Finset.univ fun p => Pipeline.cellsGhost cfgs EP p d) ∗ (bigSep Finset.univ fun p => Pipeline.toksInit cfgs EP p d))

theorem bigSep_emp' {I : Type} (s : Finset I) : (bigSep s fun _ => iprop(emp)) = (iprop(emp) : sProp 𝕄) := bigSep_emp_const s

theorem bigSep_two (Φ : Fin 2 → sProp 𝕄) : bigSep Finset.univ Φ = iprop(Φ 0 ∗ Φ 1) := BI.bigSep_fin_two Φ

/-- The launch element funds the handshakes and every core's pipelines. -/
theorem hu₀ : (ownU (u₀ (F := F)) : sProp 𝕄)
    ⊢ |={Set.univ}=> iprop(BI.own (EH (initOf (SC (F := F)).hsCells (SC (F := F)).hsToks)) ∗ (bigSep Finset.univ fun d : Dev nD => Ghost d)
        ∗ bigSep Finset.univ fun thr : Thread nD τ => bigSep Finset.univ fun q : Fin 1 => (P m).x q thr) := by
  unfold u₀
  iintro Hu
  ihave H := (ownU_pair (initOf (SC (F := F)).hsCells (SC (F := F)).hsToks, initOf (Pipeline.cells cfgs cellOf_inj) (Pipeline.launchToks cfgs cellOf_inj)) (1 : Counters)) $$ Hu
  icases H with ⟨HU, -⟩
  ihave H := (own_pair_emb embL (initOf (SC (F := F)).hsCells (SC (F := F)).hsToks) (initOf (Pipeline.cells cfgs cellOf_inj) (Pipeline.launchToks cfgs cellOf_inj))) $$ HU
  icases H with ⟨HH, HP⟩
  imod (Pipeline.fund_ghost cfgs EP cellOf_inj) $$ HP with ⟨Hc, Ht⟩
  imodintro
  isplitl [HH]; · iexact HH
  isplitl [Hc Ht]
  · rw [bigSep_sep']
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- A core's unscoped buffers, one by one. -/
theorem bufs_eq (d : Dev nD) (W : Cont F d) :
    (unscopedBufs d W : sProp 𝕄) = iprop((zLoc d ↦{fullShare} W main_arg0) ∗ (iLoc d ↦{fullShare} W main_arg1) ∗ (xLoc d ↦{fullShare} W main_arg2)
      ∗ (pLoc d ↦{fullShare} W main_arg3) ∗ (gLoc d ↦{fullShare} W main_arg4)
      ∗ ((SparseCore.T d).loc main_v0_0 ↦{fullShare} W main_v0_0) ∗ ((SparseCore.T d).loc main_v0_1 ↦{fullShare} W main_v0_1) ∗ ((SparseCore.T d).loc main_v0_2 ↦{fullShare} W main_v0_2)
      ∗ (oLoc d ↦{fullShare} W main_v1) ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_arg2, main_arg3, main_arg4, main_v0_0, main_v0_1, main_v0_2, main_v1, main_v2, main_v3} by decide]
  repeat rw [SparseCore.bigSep_insert' (by decide)]
  rw [bigSep_singleton]

/-- A pipeline's call from @main: from its entry state and its ghost state, to its exit state. -/
theorem step {p : Fin 2} (R : RDat.RegionSeg (pcfgs (F := F)) adm (rdats m) (none : HIx 1) defs₀ 𝒱₀ (SC (F := F)).L (SC (F := F)).lev p) (c : Dev nD)
    (A B : sProp 𝕄) (hA : R.pre c = A) (hB : R.post c = B) (Q : PUnit → sProp 𝕄) :
    iprop((iprop(boundary (SparseCore.T c : Thread nD τ) ∗ B) -∗ Q ⟨⟩) ∗ boundary (SparseCore.T c : Thread nD τ) ∗ A ∗ levAts (SC (F := F)).L (SC (F := F)).lev
        ∗ Pipeline.cellsGhost cfgs EP p c ∗ Pipeline.toksInit cfgs EP p c)
      ⊢ wp frame (wpE ((SC (F := F)).defs D) 𝒱 (SparseCore.T c) none) Set.univ (Prog.lift (.customCall (SparseCore.inner (Pipeline.entry p)) ())) Q := by
  subst hA hB
  have h := RDat.RegionSeg.wp (pcfgs (F := F)) adm (rdats m) (none : HIx 1) cellOf_inj EP defs₀ 𝒱₀ (SC (F := F)).L (SC (F := F)).lev R c none (fun _ h => nomatch h) .ret Q
  refine BIBase.Entails.trans ?_ (h.trans ((SC (F := F)).wp_liftProg D 𝒱 (SparseCore.T c) Set.univ none _ Q))
  simp only [wp_ret]
  iintro ⟨Hk, Hb, Hr⟩
  isplitl [Hk]
  · iintro H; imodintro; iapply Hk; iexact H
  isplitl [Hb]; · iexact Hb
  iexact Hr

/-- The finishing pipeline's output laid out as the result is. -/
def result (d : Dev nD) (y : Buf (Elt F) ((SparseCore.T d : Thread nD τ).loc main_v2)) : Buf (Elt F) ((SparseCore.T d : Thread nD τ).loc main_v3) :=
  fun i => shapeCast S2 y shapeCasts_S1x2_S2 i

include m in
/-- The host's reshape, from the finishing pipeline's output `y`. -/
theorem reshape_step (d : Dev nD) (y : Buf (Elt F) ((SparseCore.T d : Thread nD τ).loc main_v2)) (z : Buf (Elt F) ((SparseCore.T d : Thread nD τ).loc main_v3))
    (Q : PUnit → sProp 𝕄) :
    iprop((iprop(boundary (SparseCore.T d : Thread nD τ) ∗ (SparseCore.T d).loc main_v3 ↦{fullShare} result d y) -∗ Q ⟨⟩)
        ∗ boundary (SparseCore.T d : Thread nD τ) ∗ ((SparseCore.T d).loc main_v2 ↦{fullShare} y) ∗ (SparseCore.T d).loc main_v3 ↦{fullShare} z)
      ⊢ wp frame (wpE ((SC (F := F)).defs D) 𝒱 (SparseCore.T d) none) Set.univ
          (hlo rfl (StableHlo.reshape main_v2 main_v3 (rfl : (.f32 : EltTy) = .f32) shapeCasts_S1x2_S2) (fun _ => .ret ⟨⟩)) Q := by
  let X : Valuation τ sig (Elt F) := Function.update (Function.update (fun b => m (d, b)) (Proc.devRef .tc main_v3) z) (Proc.devRef .tc main_v2) y
  have h2 : X (Proc.devRef .tc main_v2) = y := Function.update_self _ _ _
  have h3 : X (Proc.devRef .tc main_v3) = z := (Function.update_of_ne (by decide) _ _).trans (Function.update_self _ _ _)
  have hbufs : ∀ W : Valuation τ sig (Elt F), (bigSep (StableHlo.reshape (τ := τ) (Val := Elt F) main_v2 main_v3 (rfl : (.f32 : EltTy) = .f32) shapeCasts_S1x2_S2).bufs
        (fun b => (d, b) ↦{fullShare} W b) : sProp 𝕄)
      = iprop(((SparseCore.T d).loc main_v2 ↦{fullShare} W (Proc.devRef .tc main_v2)) ∗ (SparseCore.T d).loc main_v3 ↦{fullShare} W (Proc.devRef .tc main_v3)) := by
    intro W
    rw [StableHlo.reshape_bufs, SparseCore.bigSep_insert' (by decide), bigSep_singleton]
  iintro ⟨Hk, Hb, Hy, Hz⟩
  iapply (wp_hlo 𝒱 (SparseCore.T d) none Set.univ (q := fun _ => fullShare) (F := X) fun _ _ => rfl) $$ [Hb Hy Hz]
  · isplitl [Hb]; · iexact Hb
    rw [hbufs, h2, h3]
    isplitl [Hy] <;> iassumption
  iintro ⟨Hb, H⟩
  ihave H := (Entails.of_eq (hbufs _)) $$ H
  icases H with ⟨-, Hz⟩
  rw [wp_ret]
  imodintro
  iapply Hk
  isplitl [Hb]; · iexact Hb
  rw [StableHlo.reshape_result, h2]
  iexact Hz

/-- What @main ends with on core `d`: the arguments as at the launch, and the result, whatever the last block held past
    the memory's end. -/
abbrev FIN (d : Dev nD) : sProp 𝕄 :=
  iprop((zLoc d ↦{fullShare} m (zLoc d)) ∗ (iLoc d ↦{fullShare} m (iLoc d)) ∗ (xLoc d ↦{fullShare} m (xLoc d)) ∗ (pLoc d ↦{fullShare} m (pLoc d)) ∗ (gLoc d ↦{fullShare} m (gLoc d))
    ∗ ∃ x, (SparseCore.T d).loc main_v3 ↦{fullShare} result d (outAt (V2 m d) x))

/-- An argument holds at the end what it held at the launch. -/
theorem V3_arg (d : Dev nD) (x) {b : Ref sig .tc} (h : b ≠ main_v2 ∧ b ≠ main_v1 ∧ b ≠ main_v0_0 ∧ b ≠ main_v0_1 ∧ b ≠ main_v0_2) :
    V3 m d x b = m ((SparseCore.T d).loc b) := by
  rw [V3_ne m d x h.1, V2_ne m d h.2.1, V1_ne m d h.2.2]; rfl

/-- What the core holds of the handshake beside what it owes, before call `n`. -/
abbrev Shake (d : Dev nD) (n : ℕ) : sProp 𝕄 :=
  iprop(atPos EH ((SC (F := F)).doneCell d) n ∅ 0 ∗ reached EH ((SC (F := F)).doneCell d) n
    ∗ (bigSep Finset.univ fun c : Fin τ.nSC => reached EH ((SC (F := F)).startCell d c) ((SC (F := F)).sRank c n))
    ∗ bigSep (SparseCore.Cfg.callsFrom n) fun q : Fin 1 => bigSep Finset.univ fun c : Fin ((SC (F := F)).nCore q) =>
        iprop(dutyTok EH ((SC (F := F)).startCell d ((SC (F := F)).core q c)) ((SC (F := F)).sRank ((SC (F := F)).core q c) q.val) 0
          ∗ cred (tallyAt ((SC (F := F)).doneCell d) (some q) 1)))

theorem tcSt_eq (d : Dev nD) (n : ℕ) : ((SC (F := F)).tcSt EH d n : sProp 𝕄)
    = iprop((∃ W, ⌜(SC (F := F)).WBelow (SparseCore.T d) W (8 * n)⌝ ∗ owes (SparseCore.T d : Thread nD τ) ((SC (F := F)).Otc d n) W) ∗ Shake d n) := rfl

/-- @main on core `d`: the streaming pipeline, the gather, the finishing pipeline and the reshape. -/
theorem hmain (κ : GSem nD τ sig → ℕ) (d : Dev nD) :
    iprop((SC (F := F)).ctx EH (P m) κ ∗ (SC (F := F)).tcSt EH d 0 ∗ (SC (F := F)).tcRes m ρ d ∗ Ghost d)
      ⊢ wp frame (wpE ((SC (F := F)).defs D) 𝒱 (SparseCore.T d) none) Set.univ (main d)
          fun _ => iprop((SC (F := F)).tcSt EH d 1 ∗ FIN m d ∗ (SC (F := F)).tcEnd d) := by
  unfold SparseCore.Cfg.tcRes SparseCore.Cfg.tcEnd Ghost
  rw [bigSep_two, bigSep_two, tcSt_eq]
  simp only [main, wp_bind, wp_pure]
  iintro ⟨#Hctx, ⟨Ho, Hs⟩, ⟨Hb, Hub, Hts, -⟩, ⟨Hc0, Hc1⟩, Ht0, Ht1⟩
  ihave #Hlev := (SparseCore.Cfg.ctx_levAts κ) $$ Hctx
  iapply (step m (seg0 m) d (State d 0 (V0 m d)) (State d 0 (V1 m d)) rfl rfl)
  isplitr [Hb Ho Hub Hc0 Ht0]
  rotate_left
  · isplitl [Hb]; · iexact Hb
    isplitl [Ho Hub]
    · isplitl [Ho]; · iexact Ho
      iexact Hub
    isplitr; · iexact Hlev
    isplitl [Hc0]; · iexact Hc0
    iexact Ht0
  iintro ⟨Hb, Ho, Hub⟩
  ihave H := (Entails.of_eq (bufs_eq d (V1 m d))) $$ Hub
  icases H with ⟨Hz, Hi, Hx, Hp, Hg, Ha, Hn, Hw, Hr, Hv, Hy⟩
  iapply ((SC (F := F)).wp_run D 𝒱 (EH := EH) (P := P m) κ d 0)
  isplitr; · iexact Hctx
  isplitl [Ho Hs]
  · rw [tcSt_eq]
    isplitl [Ho]; · iexact Ho
    iexact Hs
  isplitl [Hi Hx Hr]
  · rw [st0_eq]
    isplitl [Hi]; · rw [V1_ne m d (b := main_arg1) (by decide)]; iexact Hi
    isplitl [Hx]; · rw [V1_ne m d (b := main_arg2) (by decide)]; iexact Hx
    rw [V1_ne m d (b := main_v1) (by decide)]; iexact Hr
  iintro ⟨Hst, Hdn⟩
  ihave H := (Entails.of_eq (dn0_eq m d)) $$ Hdn
  icases H with ⟨Hi, Hx, Hr⟩
  ihave H := (Entails.of_eq (tcSt_eq d ((0 : Fin 1).val + 1))) $$ Hst
  icases H with ⟨Ho, Hs⟩
  iapply (step m (seg1 m) d (State d 1 (V2 m d)) iprop(∃ x, State d 1 (V3 m d x)) rfl rfl)
  isplitr [Hb Ho Hz Hi Hx Hp Hg Ha Hn Hw Hr Hv Hy Hc1 Ht1]
  rotate_left
  · isplitl [Hb]; · iexact Hb
    isplitr [Hc1 Ht1]
    · isplitl [Ho]; · iexact Ho
      rw [bufs_eq, V2_rows, V2_ne m d (b := main_arg0) (by decide), V2_ne m d (b := main_arg1) (by decide), V2_ne m d (b := main_arg2) (by decide), V2_ne m d (b := main_arg3) (by decide),
        V2_ne m d (b := main_arg4) (by decide), V2_ne m d (b := main_v0_0) (by decide), V2_ne m d (b := main_v0_1) (by decide), V2_ne m d (b := main_v0_2) (by decide),
        V2_ne m d (b := main_v2) (by decide), V2_ne m d (b := main_v3) (by decide), V1_ne m d (b := main_arg1) (by decide), V1_ne m d (b := main_arg2) (by decide)]
      isplitl [Hz]; · iexact Hz
      isplitl [Hi]; · iexact Hi
      isplitl [Hx]; · iexact Hx
      isplitl [Hp]; · iexact Hp
      isplitl [Hg]; · iexact Hg
      isplitl [Ha]; · iexact Ha
      isplitl [Hn]; · iexact Hn
      isplitl [Hw]; · iexact Hw
      isplitl [Hr]; · iexact Hr
      isplitl [Hv]; · iexact Hv
      iexact Hy
    isplitr; · iexact Hlev
    isplitl [Hc1]; · iexact Hc1
    iexact Ht1
  iintro ⟨Hb, %x, Ho, Hub⟩
  ihave H := (Entails.of_eq (bufs_eq d (V3 m d x))) $$ Hub
  icases H with ⟨Hz, Hi, Hx, Hp, Hg, -, -, -, -, Hv, Hy⟩
  iapply (reshape_step m d)
  isplitr [Hb Hv Hy]
  rotate_left
  · isplitl [Hb]; · iexact Hb
    isplitl [Hv]; · iexact Hv
    iexact Hy
  iintro ⟨Hb, Hy⟩
  rw [V3_out, V3_arg m d x (b := main_arg0) (by decide), V3_arg m d x (b := main_arg1) (by decide), V3_arg m d x (b := main_arg2) (by decide),
    V3_arg m d x (b := main_arg3) (by decide), V3_arg m d x (b := main_arg4) (by decide)]
  imodintro
  isplitl [Ho Hs]
  · rw [tcSt_eq]
    isplitl [Ho]; · iexact Ho
    iexact Hs
  isplitr [Hb Hts]
  · isplitl [Hz]; · iexact Hz
    isplitl [Hi]; · iexact Hi
    isplitl [Hx]; · iexact Hx
    isplitl [Hp]; · iexact Hp
    isplitl [Hg]; · iexact Hg
    iexists x; iexact Hy
  isplitl [Hb] <;> iassumption

/-! ## The program's run -/

/-- What a final state of core `d` holds: the arguments unchanged, and the result. -/
def fq (d : Dev nD) (s : Phys nD τ sig (Elt F)) : Prop :=
  (s.mem.mem (zLoc d) = m (zLoc d) ∧ s.mem.mem (iLoc d) = m (iLoc d) ∧ s.mem.mem (xLoc d) = m (xLoc d) ∧ s.mem.mem (pLoc d) = m (pLoc d) ∧ s.mem.mem (gLoc d) = m (gLoc d))
    ∧ ∃ x, s.mem.mem ((SparseCore.T d).loc main_v3) = result d (outAt (V2 m d) x)

/-- A buffer held whole is what the state's memory holds, and stays held. -/
theorem agree {ℓ : Loc nD τ sig} (f : Buf (Elt F) ℓ) (s : Phys nD τ sig (Elt F)) :
    iprop((ℓ ↦{fullShare} f) ∗ SI s) ⊢ (iprop(⌜s.mem.mem ℓ = f⌝ ∗ SI s) : sProp 𝕄) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s : Phys nD τ sig (Elt F)) : iprop(FIN m d ∗ SI s) ⊢ (⌜fq m d s⌝ : sProp 𝕄) := by
  iintro ⟨⟨Hz, Hi, Hx, Hp, Hg, %x, Hy⟩, HSI⟩
  ihave H := (agree (m (zLoc d)) s) $$ [Hz HSI]
  · isplitl [Hz] <;> iassumption
  icases H with ⟨%hz, HSI⟩
  ihave H := (agree (m (iLoc d)) s) $$ [Hi HSI]
  · isplitl [Hi] <;> iassumption
  icases H with ⟨%hi, HSI⟩
  ihave H := (agree (m (xLoc d)) s) $$ [Hx HSI]
  · isplitl [Hx] <;> iassumption
  icases H with ⟨%hx, HSI⟩
  ihave H := (agree (m (pLoc d)) s) $$ [Hp HSI]
  · isplitl [Hp] <;> iassumption
  icases H with ⟨%hp, HSI⟩
  ihave H := (agree (m (gLoc d)) s) $$ [Hg HSI]
  · isplitl [Hg] <;> iassumption
  icases H with ⟨%hg, HSI⟩
  ihave H := (agree (result d (outAt (V2 m d) x)) s) $$ [Hy HSI]
  · isplitl [Hy] <;> iassumption
  icases H with ⟨%hy, -⟩
  ipureintro
  exact ⟨⟨hz, hi, hx, hp, hg⟩, x, hy⟩

/-- The program's run, from any launch memory whose indices name rows: on every core the arguments are kept and the
    result is the finishing pipeline's, for some contents of its last block past the memory's end; every semaphore is at
    zero. -/
theorem run_main [∀ e, Nonempty (Elt F e)] (hpre : PreOK m) :
    θ_run (Cert.KernelIdeal.defs (F := F)) (Cert.KernelIdeal.threads (F := F)) ⟨m, fun _ => 0, ρ⟩ fun r =>
      (∀ d : Dev nD, (r.2.mem (zLoc d) = m (zLoc d) ∧ r.2.mem (iLoc d) = m (iLoc d) ∧ r.2.mem (xLoc d) = m (xLoc d) ∧ r.2.mem (pLoc d) = m (pLoc d) ∧ r.2.mem (gLoc d) = m (gLoc d))
        ∧ ∃ x, r.2.mem ((SparseCore.T d).loc main_v3) = result d (outAt (V2 m d) x)) ∧ r.2.sem = fun _ => 0 :=
  SparseCore.Cfg.θ_run_sc_quiescent (K := SC (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main Ghost (FIN m) (u₀ (F := F)) (sep_elim_left.trans (hu₀ m)) (hmain m ρ) (fq m) (hfin m) _ (fun _ h hz => ⟨h, hz⟩)

end Cert.Proof.K

end
-- ==== Proof.Transfer.lean ====
/-
  The kernel as printed and its idealization are one program up to the constant the idealization names: where a named
  constant means its own bits, the two programs' tables and threads are the same, so a run of one is a run of the other.
-/
module

public import proofs.«01_k».proof.Defs
public import proofs.«01_k».proof.Proof.Gen.Kernel
public import proofs.«01_k».proof.Proof.Gen.KernelIdeal

@[expose] public section

set_option maxRecDepth 65536
set_option maxHeartbeats 4000000

noncomputable section

namespace Cert.Proof.Transfer

open Idealize.ShloMosaic Idealize.SL.Sem

/-- At bit patterns a named constant is its bits. -/
@[reducible] def namedBits : Named Bits where
  named _ _ {φ} b := FloatOps.ofBits φ b

attribute [local instance] namedBits

/-- The two programs' kernel bodies agree label by label, -/
theorem defs₀_eq : @Cert.Kernel.defs₀ Bits _ _ = @Cert.KernelIdeal.defs₀ Bits _ _ _ := by
  unfold Cert.Kernel.defs₀ Cert.KernelIdeal.defs₀
  funext p l a
  rcases p with _ | _ | _ <;> rcases l with ⟨_ | _ | _ | n, h⟩ <;> rfl

/-- and so do their whole tables. -/
theorem defs_eq : @Cert.Kernel.defs Bits _ _ = @Cert.KernelIdeal.defs Bits _ _ _ := by
  unfold Cert.Kernel.defs Cert.KernelIdeal.defs
  exact congrArg (fun x => (Cert.KernelIdeal.sc (F := Bits)).defs (Pipeline.defs Cert.KernelIdeal.pcfgs x)) defs₀_eq

/-- What every run of the idealization's text at bit patterns ends in, every run of the kernel does. -/
theorem run (m : (ℓ : Loc Cert.KernelIdeal.nD Cert.KernelIdeal.τ Cert.KernelIdeal.sig) → Buf (Elt Bits) ℓ) (ρ : Dev Cert.KernelIdeal.nD → PrngReg)
    (Q : PUnit × MemSt Cert.KernelIdeal.nD Cert.KernelIdeal.τ Cert.KernelIdeal.sig (Elt Bits) → Prop)
    (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q := by
  rw [defs_eq]; exact h

end Cert.Proof.Transfer

end
-- ==== Proof.Pre.lean ====
/-
  The two preconditions read back: the shape facts their printed functions take, and what they say of the arguments.
-/
module

public import proofs.«01_k».proof.Defs
public import Idealize.ShloMosaic.Lib.ReduceAll
public import Idealize.ShloMosaic.Lib.WordCmp
public import Idealize.ShloMosaic.Lib.Affine

@[expose] public section

noncomputable section

namespace Cert.Proof.Pre

open Idealize.ShloMosaic

instance range_facts : Cert.Pre_index_in_range.Facts where
  bcast_S_S1024 := by decide
  reducesTo_S1024_S_d0 := by decide
  h_S_ := by decide

instance posed_facts : Cert.Pre_well_posed.Facts where
  bcast_S_S1024 := by decide
  reducesTo_S1024_S_d0 := by decide
  h_S_ := by decide
  bcast_S_S100000 := by decide
  reducesTo_S100000_S_d0 := by decide
  slices_S2_S1_0 := by decide
  shapeCasts_S1_S_ := by decide

/-- A signed word in `[0, 100000)` is its own value. -/
theorem word_range (w : BitVec 32) (h : IntOp.andi (IntOp.cmpi .sge w 0#32) (IntOp.cmpi .slt w 100000#32) = 1#1) : w.toNat < 100000 := by
  have ofBool_eq_one (p : Bool) : (BitVec.ofBool p = 1#1) ↔ p = true := by cases p <;> decide
  simp only [IntOp.cmpi, WordCmp.andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

variable {F : FTy → Type} [FloatOps F]

/-- Under `index_in_range` every index names a row of the bank. -/
theorem range (z : FVec F Cert.Pre_index_in_range.S1024x128 .f32) (ix : IVec Cert.Pre_index_in_range.S1024 32) (x : FVec F Cert.Pre_index_in_range.S100000x128 .f32)
    (p : FVec F Cert.Pre_index_in_range.S2 .f32) (g : IVec Cert.Pre_index_in_range.S100000 32)
    (h : Cert.Pre_index_in_range.fn z ix x p g = fun _ => 1#1) (j : Cert.Pre_index_in_range.S1024.Idx) : (ix j).toNat < 100000 := by
  have e := congrFun h (fun a => a.elim0)
  dsimp only [Cert.Pre_index_in_range.fn] at e
  exact word_range _ (Host.reduce_andi_all _ _ _ _ _ e j)

/-- Under `well_posed` every index names a row of the bank, every flag is negative and the temperature is positive. -/
theorem posed (z : FVec F Cert.Pre_well_posed.S1024x128 .f32) (ix : IVec Cert.Pre_well_posed.S1024 32) (x : FVec F Cert.Pre_well_posed.S100000x128 .f32)
    (p : FVec F Cert.Pre_well_posed.S2 .f32) (g : IVec Cert.Pre_well_posed.S100000 32)
    (h : Cert.Pre_well_posed.fn z ix x p g = fun _ => 1#1) :
    (∀ j, (ix j).toNat < 100000) ∧ (∀ j, IntOp.cmpi .slt (g j) 0#32 = 1#1)
      ∧ FloatOps.cmpf .ogt (p (fun | 0 => (0 : Fin 2))) (FloatOps.ofBits .f32 0x00000000#32 : F .f32) = 1#1 := by
  have e := congrFun h (fun a => a.elim0)
  dsimp only [Cert.Pre_well_posed.fn] at e
  obtain ⟨e, ht⟩ := IntOp.andi_eq_one.1 e
  obtain ⟨hi, hg⟩ := IntOp.andi_eq_one.1 e
  refine ⟨fun j => word_range _ (Host.reduce_andi_all _ _ _ _ _ hi j), fun j => Host.reduce_andi_all _ _ _ _ _ hg j, .trans ?_ ht⟩
  refine congrArg (fun y => FloatOps.cmpf .ogt y (FloatOps.ofBits .f32 0x00000000#32 : F .f32)) ?_
  unfold shapeCast
  refine congrArg p (funext fun | 0 => Fin.ext ?_)
  have h1 : ∀ k : Cert.Pre_well_posed.S1.Idx, (k 0).val = 0 := fun k => by have h : (k 0).val < 1 := (k 0).isLt; omega
  simp [h1]

end Cert.Proof.Pre

end
-- ==== Proof.Frames.lean ====
/-
  The frames: every run of the kernel, of its idealization and of the reference ends, with its arguments as found and every
  counter at zero.
-/
module

public import proofs.«01_k».proof.Proof.Run
public import proofs.«01_k».proof.Proof.Transfer
public import proofs.«01_k».proof.Proof.Pre
public import proofs.«01_k».proof.Proof.Gen.ReferenceIdeal
public import proofs.«01_k».proof.Proof.Gen.ReferenceIdeal.Run
public import Idealize.ShloMosaic.Lib.Quiescent

@[expose] public section

noncomputable section

namespace Cert.Proof.K

open Idealize.ShloMosaic Idealize.SL.Sem

/-- The index precondition says every index names a row. -/
theorem preOK_range (m : (ℓ : Loc Cert.KernelIdeal.nD Cert.KernelIdeal.τ Cert.KernelIdeal.sig) → Buf (Elt Ideal) ℓ)
    (h : Cert.Pre_KernelIdeal m) : PreOK m := fun d j => Pre.range _ _ _ _ _ (h d) j

/-- The kernel's frame. -/
theorem frame_kernel : Cert.quiescent_Kernel := by
  letI := Transfer.namedBits
  exact fun m g h => Transfer.run m g _ ((θ_run _ _ _).mono (fun _ r => ⟨fun c => (r.1 c).1, r.2⟩)
    (run_main (F := Bits) m g fun d j => Pre.range _ _ _ _ _ (h d) j))

/-- The idealization's frame. -/
theorem frame_ideal : Cert.quiescent_KernelIdeal := fun m g h =>
  (θ_run _ _ _).mono (fun _ r => ⟨fun c => (r.1 c).1, r.2⟩) (run_main m g (preOK_range m h))

/-- The reference's frame. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The one named constant is the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

end Cert.Proof.K

end
-- ==== Proof.Math.lean ====
/-
  The mathematics the two programs share: a row's quotients are real numbers, and the loss of a row is one expression of its
  similarities, over the extended reals.
-/
module

public import Idealize.ShloMosaic.PureOps.Ideal
public import Idealize.ShloMosaic.PureOps.Ideal.Laws

@[expose] public section

noncomputable section

namespace Cert.Proof.M

open Idealize.ShloMosaic

/-- A sum of reals is the real sum. -/
theorem coe_sum {K : Type} (S : Finset K) (f : K → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The real number a temperature's reciprocal is (zero at the infinities). -/
def recip (t : EReal) : ℝ := (t⁻¹).toReal

theorem inv_coe (t : EReal) : t⁻¹ = ((recip t : ℝ) : EReal) := by
  unfold recip
  induction t using EReal.rec with
  | bot => simp
  | top => simp
  | coe r => rw [← EReal.coe_inv, EReal.toReal_coe]

/-- A positive temperature's reciprocal is not negative. -/
theorem recip_nonneg (t : EReal) (ht : 0 < t) : 0 ≤ recip t := EReal.toReal_nonneg (EReal.inv_nonneg_of_nonneg ht.le)

/-- Division by a nonzero temperature is multiplication by its reciprocal. -/
theorem div_eq (t : EReal) (ht : t ≠ 0) (x : EReal) : Ideal.div x t = x * (recip t : EReal) := by
  rw [Ideal.div, if_neg ht, inv_coe]

/-- A factor that is real and not negative comes out of a sum of extended reals. -/
theorem sum_mul {K : Type} (S : Finset K) (f : K → EReal) (r : ℝ) (hr : 0 ≤ r) : ∑ k ∈ S, f k * (r : EReal) = (∑ k ∈ S, f k) * (r : EReal) := by
  classical
  induction S using Finset.induction_on with
  | empty => simp
  | insert a S ha ih =>
    rw [Finset.sum_insert ha, Finset.sum_insert ha, ih,
      EReal.right_distrib_of_nonneg_of_ne_top (EReal.coe_nonneg.2 hr) (EReal.coe_ne_top r)]

/-- A row's quotients by its norm are real, and so are those by its norm times the temperature. -/
theorem quot {K : Type} [Fintype K] (z : K → EReal) (c : ℝ) (hc : 0 < c) :
    ∃ u : K → ℝ, ∀ k, Ideal.div (z k) (max (Ideal.sqrt (∑ k, z k * z k)) (c : EReal)) = (u k : EReal)
      ∧ ∀ t : EReal, t ≠ 0 → Ideal.div (z k) (max (Ideal.sqrt (∑ k, z k * z k)) (c : EReal) * t) = ((u k * recip t : ℝ) : EReal) := by
  by_cases hz : ∀ k, z k ≠ ⊤ ∧ z k ≠ ⊥
  · lift z to K → ℝ using fun k => hz k
    have hs : (∑ k, (z k : EReal) * (z k : EReal)) = ((∑ k, z k * z k : ℝ) : EReal) := by
      rw [coe_sum]; simp only [EReal.coe_mul]
    have hw : 0 < max (Real.sqrt (∑ k, z k * z k)) c := lt_max_of_lt_right hc
    have hN : max (Ideal.sqrt (∑ k, (z k : EReal) * (z k : EReal))) (c : EReal) = ((max (Real.sqrt (∑ k, z k * z k)) c : ℝ) : EReal) := by
      rw [hs, Ideal.sqrt_coe, if_neg (not_lt.2 (Finset.sum_nonneg fun k _ => mul_self_nonneg _)), ← EReal.coe_strictMono.monotone.map_max]
    rw [hN]
    generalize max (Real.sqrt (∑ k, z k * z k)) c = w at hw
    have hw0 : (w : EReal) ≠ 0 := by exact_mod_cast hw.ne'
    refine ⟨fun k => z k * w⁻¹, fun k => ⟨?_, fun t ht => ?_⟩⟩
    · rw [Ideal.div, if_neg hw0, ← EReal.coe_inv, EReal.coe_mul]
    · have h0 : (w : EReal) * t ≠ 0 := mul_ne_zero hw0 ht
      rw [Ideal.div, if_neg h0, EReal.mul_inv, inv_coe t, ← EReal.coe_inv]
      push_cast
      rw [mul_assoc]
  · have hT : (∑ k, z k * z k) = ⊤ := by
      simp only [not_forall, not_and_or, not_not] at hz
      obtain ⟨k, hk⟩ := hz
      have h1 : z k * z k = ⊤ := by rcases hk with h | h <;> rw [h] <;> rfl
      have h2 : z k * z k ≤ ∑ k, z k * z k := Finset.single_le_sum (f := fun k => z k * z k) (fun k _ => by
        show (0 : EReal) ≤ z k * z k
        rcases le_total 0 (z k) with h | h
        · exact mul_nonneg h h
        · rw [← neg_mul_neg]; exact mul_nonneg (EReal.neg_nonneg.2 h) (EReal.neg_nonneg.2 h)) (Finset.mem_univ k)
      rw [h1] at h2
      exact top_le_iff.1 h2
    have hN : max (Ideal.sqrt (∑ k, z k * z k)) (c : EReal) = ⊤ := by rw [hT, Ideal.sqrt_top]; exact max_eq_left le_top
    rw [hN]
    refine ⟨fun _ => 0, fun k => ⟨?_, fun t ht => ?_⟩⟩
    · rw [Ideal.div, if_neg (by simp), EReal.inv_top, mul_zero]; rfl
    · rw [Ideal.div, if_neg (mul_ne_zero (by simp) ht), EReal.mul_inv, EReal.inv_top, zero_mul, mul_zero, zero_mul]; rfl

/-- Two to a real over the logarithm of two is its exponential. -/
theorem two_rpow (x : ℝ) : Real.rpow 2 (x * (Real.log 2)⁻¹) = Real.exp x := by
  have h : Real.log 2 ≠ 0 := (Real.log_pos (by norm_num)).ne'
  rw [Real.rpow_eq_pow, Real.rpow_def_of_pos (by norm_num), ← mul_assoc, mul_comm (Real.log 2) x, mul_assoc, mul_inv_cancel₀ h, mul_one]

/-- Two to an extended real over the logarithm of two is its exponential. -/
theorem exp2_mul (x : EReal) : Ideal.exp2 (x * (((Real.log 2)⁻¹ : ℝ) : EReal)) = Ideal.exp x := by
  have h : 0 < (Real.log 2)⁻¹ := inv_pos.2 (Real.log_pos (by norm_num))
  induction x using EReal.rec with
  | bot => rw [EReal.bot_mul_coe_of_pos h]; rfl
  | top => rw [EReal.top_mul_coe_of_pos h]; rfl
  | coe r => rw [← EReal.coe_mul, Ideal.exp2_coe, two_rpow, Ideal.exp_coe]

/-- An exponential is not negative. -/
theorem exp_nonneg (x : EReal) : 0 ≤ Ideal.exp x := by
  induction x using EReal.rec with
  | bot => exact le_refl _
  | top => exact le_top
  | coe r => exact EReal.coe_nonneg.2 (Real.exp_pos r).le

/-- Below plus infinity an exponential is real, and the exponential of a difference is a quotient. -/
theorem exp_real (x : EReal) (hx : x ≠ ⊤) (μ : ℝ) :
    ∃ e : ℝ, 0 ≤ e ∧ (x ≠ ⊥ → 0 < e) ∧ Ideal.exp x = (e : EReal) ∧ Ideal.exp (x - (μ : EReal)) = ((e * (Real.exp μ)⁻¹ : ℝ) : EReal) ∧ Ideal.log (e : EReal) = x := by
  induction x using EReal.rec with
  | top => exact absurd rfl hx
  | bot => exact ⟨0, le_refl _, fun h => absurd rfl h, rfl, by rw [EReal.bot_sub, zero_mul]; rfl,
      by rw [Ideal.log_coe, if_pos (le_refl _)]⟩
  | coe r => exact ⟨Real.exp r, (Real.exp_pos r).le, fun _ => Real.exp_pos r, rfl, by rw [← EReal.coe_sub, Ideal.exp_coe, Real.exp_sub, div_eq_mul_inv],
      by rw [Ideal.log_coe, if_neg (not_le.2 (Real.exp_pos r)), Real.log_exp]⟩

/-- The logarithm of a softmax entry is the entry less the logarithm of the exponentials' sum, whether or not the entries are
    finite. -/
theorem log_softmax {K : Type} [Fintype K] (s : K → EReal) (i : K) :
    Ideal.log (Ideal.div (Ideal.exp (s i - Finset.univ.fold max ⊥ s)) (∑ k, Ideal.exp (s k - Finset.univ.fold max ⊥ s)))
      = s i - Ideal.log (∑ k, Ideal.exp (s k)) := by
  have hle (k : K) : s k ≤ Finset.univ.fold max ⊥ s := (Finset.le_fold_max _).2 (Or.inr ⟨k, Finset.mem_univ k, le_refl _⟩)
  have hnone (h : ∀ k, Ideal.exp (s k - Finset.univ.fold max ⊥ s) = 0) :
      Ideal.log (Ideal.div (Ideal.exp (s i - Finset.univ.fold max ⊥ s)) (∑ k, Ideal.exp (s k - Finset.univ.fold max ⊥ s))) = ⊥ := by
    simp only [h, Finset.sum_const_zero]
    rw [Ideal.div, if_pos rfl, if_neg (lt_irrefl _)]; rfl
  by_cases hT : ∃ k, s k = ⊤
  · obtain ⟨k, hk⟩ := hT
    have hμ : Finset.univ.fold max ⊥ s = ⊤ := top_le_iff.1 (hk ▸ hle k)
    have hS : ∑ k, Ideal.exp (s k) = ⊤ := top_le_iff.1 ((show ⊤ ≤ Ideal.exp (s k) by rw [hk]; exact le_refl _).trans
      (Finset.single_le_sum (f := fun k => Ideal.exp (s k)) (fun k _ => exp_nonneg _) (Finset.mem_univ k)))
    rw [hnone fun k => by rw [hμ, sub_eq_add_neg, EReal.neg_top, EReal.add_bot]; rfl, hS]
    exact (EReal.add_bot _).symm
  by_cases hB : ∀ k, s k = ⊥
  · rw [hnone fun k => by rw [hB k, EReal.bot_sub]; rfl, hB i, EReal.bot_sub]
  simp only [not_exists, not_forall] at hT hB
  obtain ⟨b, hb⟩ := hB
  have hμT : Finset.univ.fold max ⊥ s ≠ ⊤ := ((Finset.fold_max_lt _).2 ⟨bot_lt_top, fun k _ => lt_top_iff_ne_top.2 (hT k)⟩).ne
  have hμB : Finset.univ.fold max ⊥ s ≠ ⊥ := ((bot_lt_iff_ne_bot.2 hb).trans_le (hle b)).ne'
  obtain ⟨μ, hμ⟩ : ∃ μ : ℝ, Finset.univ.fold max ⊥ s = (μ : EReal) := ⟨_, (EReal.coe_toReal hμT hμB).symm⟩
  choose e h0 hpos he hq hlog using fun k => exp_real (s k) (hT k) μ
  have hS : 0 < ∑ k, e k := Finset.sum_pos' (fun k _ => h0 k) ⟨b, Finset.mem_univ b, hpos b hb⟩
  have hμe := Real.exp_pos μ
  simp only [hμ, hq, he]
  rw [← coe_sum, ← coe_sum, ← Finset.sum_mul, Ideal.div, if_neg (by exact_mod_cast (mul_pos hS (inv_pos.2 hμe)).ne'), ← EReal.coe_inv, ← EReal.coe_mul,
    show e i * (Real.exp μ)⁻¹ * ((∑ k, e k) * (Real.exp μ)⁻¹)⁻¹ = e i * (∑ k, e k)⁻¹ by field_simp, Ideal.log_coe (r := ∑ k, e k), if_neg (not_le.2 hS), ← hlog i]
  rcases (h0 i).eq_or_lt with hz | hp
  · rw [← hz, zero_mul, Ideal.log_coe, if_pos (le_refl _), EReal.bot_sub]
  · rw [Ideal.log_coe, Ideal.log_coe, if_neg (not_le.2 hp), if_neg (not_le.2 (mul_pos hp (inv_pos.2 hS))), Real.log_mul hp.ne' (inv_ne_zero hS.ne'),
      Real.log_inv, ← EReal.coe_sub, sub_eq_add_neg]

/-- Sums over consecutive blocks are one sum. -/
theorem sum_blocks {A : Type} [AddCommMonoid A] (f : ℕ → A) (b : ℕ) : ∀ a : ℕ,
    ∑ q ∈ Finset.range a, ∑ i ∈ Finset.range b, f (b * q + i) = ∑ i ∈ Finset.range (b * a), f i := by
  intro a
  induction a with
  | zero => simp
  | succ a ih => rw [Finset.sum_range_succ, ih, Nat.mul_succ, Finset.sum_range_add]

end Cert.Proof.M

end
-- ==== Proof.KVal.lean ====
/-
  What the kernel computes at the extended reals, entry by entry.
-/
module

public import proofs.«01_k».proof.Proof.Run
public import proofs.«01_k».proof.Proof.Math
public import Idealize.ShloMosaic.Lib.Pointwise
public import Idealize.ShloMosaic.Lib.StableHlo.Predicate

@[expose] public section

noncomputable section

namespace Cert.Proof.K

open Cert.KernelIdeal Cert.KernelIdeal.Gen
open Idealize.ShloMosaic Idealize.ShloMosaic.Pointwise

/-- The norm of row `r`, kept from below. -/
def norm (z : FVec Ideal S1024x128 .f32) (r : Fin 1024) : EReal :=
  max (Ideal.sqrt (∑ k : Fin 128, z (ix2 r k) * z (ix2 r k))) (Ideal.ofBits .f32 0x2B8CBCCC#32)

/-- A scaled row's entry is the row's over its norm times the temperature, -/
theorem pay2_apply (z : Vec Ideal S1024x128 .f32) (t : Elt Ideal .f32) (r : Fin 1024) (l : Fin 128) :
    k0_pay2 z t (ix2 r l) = Ideal.div (z (ix2 r l)) (norm z r * t) := by
  pointwise [k0_pay2, norm]

/-- and scaled to base two it is that over the logarithm of two. -/
theorem pay3_apply (z : Vec Ideal S1024x128 .f32) (t : Elt Ideal .f32) (r : Fin 1024) (l : Fin 128) :
    k0_pay3 z t (ix2 r l) = k0_pay2 z t (ix2 r l) * (((Real.log 2)⁻¹ : ℝ) : EReal) := by
  pointwise [k0_pay3]
  rfl

/-- A similarity is a row's product with a row of the block. -/
theorem sim_apply (z : Vec Ideal S1024x128 .bf16) (x : Vec Ideal S4096x128 .f32) (r : Fin 1024) (n : Fin 4096) :
    sim z x (ix2 r n) = ∑ k : Fin 128, z (ix2 r k) * x (ix2 n k) := by
  pointwise [sim]

/-- A leaf's entry is the exponential of the similarity at its column. -/
theorem leaf_apply (s : FVec Ideal S1024x4096 .f32) (j : Fin 32) (r : Fin 1024) (l : Fin 128) :
    leaf s j (ix2 r l) = Ideal.exp2 (s (ix2 r ⟨128 * j.val + l.val, by omega⟩)) := by
  pointwise [leaf]
  rfl

/-- The tree is the sum of its leaves. -/
theorem tree_apply (i : S1024x128.Idx) (G : ℕ → EReal) : ∀ (n : ℕ) (g : Fin (2 ^ n) → FVec Ideal S1024x128 .f32) (o : ℕ),
    (∀ k, g k i = G (o + k.val)) → tree n g i = ∑ k ∈ Finset.range (2 ^ n), G (o + k) := by
  intro n
  induction n with
  | zero => intro g o h; exact (h 0).trans (by simp)
  | succ n ih =>
    intro g o h
    rw [Nat.pow_succ, Nat.mul_two, Finset.sum_range_add]
    refine congrArg₂ (· + ·) (ih _ o fun k => h _) ((ih _ (o + 2 ^ n) fun k => (h _).trans ?_).trans ?_)
    · exact congrArg G (Nat.add_assoc _ _ _).symm
    · exact Finset.sum_congr rfl fun k _ => congrArg G (Nat.add_assoc _ _ _)

/-- The exponential of row `r`'s similarity with the bank's row `n`. -/
def E (z : Vec Ideal S1024x128 .bf16) (x : Vec Ideal S100000x128 .f32) (r : Fin 1024) (n : ℕ) : EReal :=
  Ideal.exp2 (∑ k : Fin 128, z (ix2 r k) * x (ix2 ⟨n % 100000, Nat.mod_lt _ (by decide)⟩ k))

theorem rowsOf_apply (x : Vec Ideal S100000x128 .f32) (q : ℕ) (n : Fin 4096) (k : Fin 128) :
    rowsOf x q (ix2 n k) = x (ix2 ⟨(4096 * q + n.val) % 100000, Nat.mod_lt _ (by decide)⟩ k) :=
  congrArg x (funext fun | ⟨0, _⟩ => rfl | ⟨1, _⟩ => rfl)

/-- A block's exponentials folded to lane `l`. -/
theorem fold_apply (z : Vec Ideal S1024x128 .bf16) (x : Vec Ideal S100000x128 .f32) (q : ℕ) (r : Fin 1024) (l : Fin 128) :
    fold z (rowsOf x q) (ix2 r l) = ∑ j ∈ Finset.range 32, E z x r (4096 * q + (128 * j + l.val)) := by
  refine (tree_apply (ix2 r l) (fun j => E z x r (4096 * q + (128 * j + l.val))) 5 _ 0 fun j => ?_).trans
    (Finset.sum_congr rfl fun j _ => by rw [Nat.zero_add])
  rw [Nat.zero_add]
  refine (leaf_apply _ j r l).trans (congrArg Ideal.exp2 ((sim_apply _ _ _ _).trans (Finset.sum_congr rfl fun k _ => ?_)))
  rw [rowsOf_apply]

variable {c : Dev nD} (V : Cont Ideal c)

/-- The accumulator after point `n`, at lane `l`: the lane's exponentials of the blocks seen. -/
theorem accAt_apply (r : Fin 1024) (l : Fin 128) (n : ℕ) :
    accAt V n (ix2 r l) = ∑ q ∈ Finset.range (4 * (n + 1)), ∑ j ∈ Finset.range 32, E (znb V) (V main_arg2) r (4096 * q + (128 * j + l.val)) := by
  simp only [← fold_apply]
  let f (q : ℕ) : EReal := fold (znb V) (rowsOf (V main_arg2) q) (ix2 r l)
  have hp (n : ℕ) : partAt V n (ix2 r l) = ∑ q ∈ Finset.range 4, f (4 * n + q) := by
    simp only [Finset.sum_range_succ, Finset.range_zero, Finset.sum_empty, zero_add]
    rfl
  show _ = ∑ q ∈ Finset.range (4 * (n + 1)), f q
  induction n with
  | zero => exact (hp 0).trans (Finset.sum_congr rfl fun q _ => by rw [Nat.mul_zero, Nat.zero_add])
  | succ n ih =>
    rw [Nat.mul_succ 4 (n + 1), Finset.sum_range_add, ← ih, ← hp]
    rfl

/-- The accumulator's row, summed: the exponentials of the bank's first 98304 rows. -/
theorem acc_sum (r : Fin 1024) : ∑ l : Fin 128, accAt V 5 (ix2 r l) = ∑ n ∈ Finset.range 98304, E (znb V) (V main_arg2) r n := by
  simp only [accAt_apply]
  rw [Finset.sum_comm]
  refine .trans (Finset.sum_congr rfl fun q _ => ?_) (M.sum_blocks (E (znb V) (V main_arg2) r) 4096 24)
  rw [Finset.sum_comm]
  refine .trans (Finset.sum_congr rfl fun j _ => ?_) (M.sum_blocks (fun i => E (znb V) (V main_arg2) r (4096 * q + i)) 128 32)
  exact (Finset.sum_range fun i => E (znb V) (V main_arg2) r (4096 * q + (128 * j + i))).symm

/-- The tail's column test is whether the column names a row of the bank. -/
theorem test_iff (n : ℕ) (h : n < 2048) : IntOp.cmpi .slt (IntOp.addi 98304#32 (BitVec.ofNat 32 n)) 100000#32 = 1#1 ↔ n < 1696 := by
  have e : (IntOp.addi 98304#32 (BitVec.ofNat 32 n)).toNat = 98304 + n := by
    show (98304#32 + BitVec.ofNat 32 n).toNat = _
    rw [BitVec.toNat_add, BitVec.toNat_ofNat, BitVec.toNat_ofNat]; omega
  rw [StableHlo.Predicate.slt_iff_toNat (by omega) (by decide), e]
  show _ < 100000 ↔ _
  omega

theorem tailOf_apply (x : Vec Ideal S100000x128 .f32) (d : Vec Ideal S2048x128 .f32) (n : Fin 2048) (h : n.val < 1696) (k : Fin 128) :
    tailOf x d (ix2 n k) = x (ix2 ⟨(98304 + n.val) % 100000, Nat.mod_lt _ (by decide)⟩ k) :=
  (if_pos h).trans (congrArg x (funext fun | ⟨0, _⟩ => rfl | ⟨1, _⟩ => rfl))

/-- The tail's masked exponentials, summed: those of the bank's rows from 98304 on, whatever lies past the bank's end. -/
theorem tail_sum (z : Vec Ideal S1024x128 .bf16) (x : Vec Ideal S100000x128 .f32) (d : Vec Ideal S2048x128 .f32) (r : Fin 1024) :
    (∑ n : Fin 2048, Scalar.select (IntOp.cmpi .slt (IntOp.addi 98304#32 (BitVec.ofNat 32 n.val)) 100000#32)
        (FloatOps.exp2 (F := Ideal) (φ := .f32) (∑ k : Fin 128, z (ix2 r k) * tailOf x d (ix2 n k)) : EReal) 0)
      = ∑ n ∈ Finset.range 1696, E z x r (98304 + n) := by
  have h (n : Fin 2048) : Scalar.select (IntOp.cmpi .slt (IntOp.addi 98304#32 (BitVec.ofNat 32 n.val)) 100000#32)
        (FloatOps.exp2 (F := Ideal) (φ := .f32) (∑ k : Fin 128, z (ix2 r k) * tailOf x d (ix2 n k)) : EReal) 0
      = if n.val < 1696 then E z x r (98304 + n.val) else 0 := by
    by_cases hn : n.val < 1696
    · rw [Scalar.select, if_pos (show _ = (1 : BitVec 1) from (test_iff _ n.isLt).2 hn), if_pos hn]
      exact congrArg Ideal.exp2 (Finset.sum_congr rfl fun k _ => by rw [tailOf_apply x d n hn])
    · rw [Scalar.select, if_neg (show ¬_ = (1 : BitVec 1) from fun e => hn ((test_iff _ n.isLt).1 e)), if_neg hn]
  simp only [h]
  rw [← Finset.sum_range fun n => if n < 1696 then E z x r (98304 + n) else 0, ← Finset.sum_filter]
  refine Finset.sum_congr (Finset.ext fun n => ?_) fun _ _ => rfl
  simp only [Finset.mem_filter, Finset.mem_range]; omega

/-- The finishing body's first word. -/
theorem pay1_apply (v0 : Vec Ideal S1024x128 .bf16) (v2 : Vec Ideal S2048x128 .f32) (v13 v20 v22 : Vec Ideal S1024x128 .f32) :
    k2_pay1 v0 v2 v13 v20 v22 = Ideal.div (0 - ∑ r : Fin 1024, ∑ _u : Fin 1, ((∑ k : Fin 128, v20 (ix2 r k) * v22 (ix2 r k))
      - Ideal.log ((∑ l : Fin 128, v13 (ix2 r l)) + ∑ n : Fin 2048, Scalar.select (IntOp.cmpi .slt (IntOp.addi 98304#32 (BitVec.ofNat 32 n.val)) 100000#32)
        (FloatOps.exp2 (F := Ideal) (φ := .f32) (∑ k : Fin 128, v0 (ix2 r k) * v2 (ix2 n k)) : EReal) 0))) (Ideal.ofBits .f32 0x44800000#32) := by
  pointwise [k2_pay1]

/-- The finishing body's first word, from the streamed arrays: minus the mean over the rows of the target less the logarithm of
    all the exponentials' sum. -/
theorem loss_eq (d : Vec Ideal S2048x128 .f32) (rows : Vec Ideal S1024x128 .f32) :
    k2_pay1 (znb V) (tailOf (V main_arg2) d) (accAt V 5) (zn V) rows
      = Ideal.div (-∑ r : Fin 1024, ((∑ k : Fin 128, zn V (ix2 r k) * rows (ix2 r k)) - Ideal.log (∑ n ∈ Finset.range 100000, E (znb V) (V main_arg2) r n)))
          (Ideal.ofBits .f32 0x44800000#32) := by
  rw [pay1_apply, zero_sub]
  refine congrArg (fun s => Ideal.div (-s) _) (Finset.sum_congr rfl fun r _ => ?_)
  rw [Fin.sum_univ_one, acc_sum, tail_sum, ← Finset.sum_range_add]

end Cert.Proof.K

end
-- ==== Proof.RVal.lean ====
/-
  What the reference computes at the extended reals, entry by entry.
-/
module

public import proofs.«01_k».proof.Proof.Gen.ReferenceIdeal.Run
public import Idealize.ShloMosaic.Lib.Pointwise
public import Idealize.ShloMosaic.Lib.StableHlo.Predicate

@[expose] public section

noncomputable section

namespace Cert.Proof.R

open Cert.ReferenceIdeal Cert.ReferenceIdeal.Gen
open Idealize.ShloMosaic Idealize.ShloMosaic.Pointwise

/-- The similarities over the temperature. -/
def sims (z : FVec Ideal S1024x128 .f32) (x : FVec Ideal S100000x128 .f32) (p : FVec Ideal S2 .f32) : FVec Ideal S1024x100000 .f32 :=
  Host.divf (Host.dotGeneral (φ₁ := .f32) (φ₂ := .f32) dot_S1024x128_S128x100000_S1024x100000_1_0_0_1_n_n none
      (Host.divf z (broadcastInDim S1024x128 ![0, 1] bcast_S1024x1_S1024x128_0_1 (maximumf (Host.sqrt (broadcastInDim S1024x1 ![0] bcast_S1024_S1024x1_0
        (Host.reduceAdd (mulf z z) (constant S_ .f32 0x00000000#32) reducesTo_S1024x128_S1024_d1 h_S_)))
        (broadcastInDim S1024x1 ![] bcast_S_S1024x1 (constant S_ .f32 0x2B8CBCCC#32)))))
      (transpose S128x100000 [1, 0] x transposes_S100000x128_S128x100000_1_0))
    (broadcastInDim S1024x100000 ![] bcast_S_S1024x100000 (shapeCast S_ (extractStridedSlice S1 ![0] p slices_S2_S1_0) shapeCasts_S1_S_))

/-- Each row's greatest similarity. -/
def rowMax (s : FVec Ideal S1024x100000 .f32) : FVec Ideal S1024 .f32 :=
  Host.reduce FloatOps.maximumf s (constant S_ .f32 0xFF800000#32) reducesTo_S1024x100000_S1024_d1 h_S_

/-- The exponentials of the similarities below their row's greatest. -/
def exps (s : FVec Ideal S1024x100000 .f32) : FVec Ideal S1024x100000 .f32 :=
  Host.exp (subf s (broadcastInDim S1024x100000 ![0, 1] bcast_S1024x1_S1024x100000_0_1 (broadcastInDim S1024x1 ![0] bcast_S1024_S1024x1_0
    (maximumf (broadcastInDim S1024 ![] bcast_S_S1024 (constant S_ .f32 0xFF800000#32)) (rowMax s)))))

/-- The softmax of each row. -/
def probs (s : FVec Ideal S1024x100000 .f32) : FVec Ideal S1024x100000 .f32 :=
  Host.divf (exps s) (broadcastInDim S1024x100000 ![0, 1] bcast_S1024x1_S1024x100000_0_1 (broadcastInDim S1024x1 ![0] bcast_S1024_S1024x1_0
    (Host.reduceAdd (exps s) (constant S_ .f32 0x00000000#32) reducesTo_S1024x100000_S1024_d1 h_S_)))

/-- The indices, a negative one counted from the end. -/
def wrapped (ix : IVec S1024 32) : IVec S1024 32 :=
  select (cmpi .slt ix (broadcastInDim S1024 ![] bcast_S_S1024 (constantI S_ 32 0#32)))
    (addi ix (broadcastInDim S1024 ![] bcast_S_S1024 (constantI S_ 32 100000#32))) ix

/-- The pairs (row, index). -/
def pairs (ix : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩,
    ⟨S1024x1, (broadcastInDim S1024x1 ![0] bcast_S1024_S1024x1_0 (wrapped ix))⟩] concatenates_S1024x1_S1024x1_S1024x2_d1

/-- Each row's term of the loss. -/
def terms (P : FVec Ideal S1024x100000 .f32) (ix : IVec S1024 32) (g : IVec S100000 32) : FVec Ideal S1024 .f32 :=
  select (cmpi .slt (Host.gather gather_S100000_S1024x1_S1024_n_0_n_n_0_1_1 g (broadcastInDim S1024x1 ![0] bcast_S1024_S1024x1_0 (wrapped ix)))
      (broadcastInDim S1024 ![] bcast_S_S1024 (constantI S_ 32 0#32)))
    (Host.log (addf (Host.gather gather_S1024x100000_S1024x2_S1024_n_01_n_n_01_1_11 P (pairs ix)) (broadcastInDim S1024 ![] bcast_S_S1024 (constant S_ .f32 0x00000000#32))))
    (broadcastInDim S1024 ![] bcast_S_S1024 (id (constant S_ .f32 0x00000000#32)))

/-- The two words of the result, from the terms. -/
def words (v : FVec Ideal S1024 .f32) : FVec Ideal S2 .f32 :=
  concatenate S2 0 [⟨S1, (broadcastInDim S1 ![] bcast_S_S1 (Host.divf (Host.negf (Host.reduceAdd v (constant S_ .f32 0x00000000#32) reducesTo_S1024_S_d0 h_S_)) (constant S_ .f32 0x44800000#32)))⟩,
    ⟨S1, (broadcastInDim S1 ![] bcast_S_S1 (constant S_ .f32 0x00000000#32))⟩] concatenates_S1_S1_S2_d0

/-- The reference's result is these stages, composed. -/
theorem res_eq (m : (ℓ : Loc nD τ sig) → Buf (Elt Ideal) ℓ) (c : Dev nD) :
    Value.res_out0 m c = words (terms (probs (sims (m (c.tc.loc main_arg0)) (m (c.tc.loc main_arg2)) (m (c.tc.loc main_arg3)))) (m (c.tc.loc main_arg1)) (m (c.tc.loc main_arg4))) := rfl

/-- The norm of row `r`, kept from below. -/
def norm (z : FVec Ideal S1024x128 .f32) (r : Fin 1024) : EReal :=
  max (Ideal.sqrt (∑ k : Fin 128, z (ix2 r k) * z (ix2 r k))) (Ideal.ofBits .f32 0x2B8CBCCC#32)

/-- A similarity is the product of the normalised row with the bank's row, over the temperature. -/
theorem sims_apply (z : FVec Ideal S1024x128 .f32) (x : FVec Ideal S100000x128 .f32) (p : FVec Ideal S2 .f32) (r : Fin 1024) (n : Fin 100000) :
    sims z x p (ix2 r n) = Ideal.div (∑ k : Fin 128, Ideal.div (z (ix2 r k)) (norm z r) * x (ix2 n k)) (p (ix1 (0 : Fin 2))) := by
  pointwise [sims, norm]

/-- A maximum along the second axis is the fold over it. -/
theorem max_apply {b n : ℕ} (h : (⟨2, ![b, n]⟩ : Shape).ReducesTo [1] ⟨1, ![b]⟩) (s : FVec Ideal ⟨2, ![b, n]⟩ .f32) (r : Fin b) :
    Host.reduce FloatOps.maximumf s (constant S_ .f32 0xFF800000#32) h h_S_ (ix1 r)
      = Finset.univ.fold max (Ideal.ofBits .f32 0xFF800000#32) fun k : Fin n => s (ix2 r k) := by
  pointwise

theorem rowMax_apply (s : FVec Ideal S1024x100000 .f32) (r : Fin 1024) :
    rowMax s (ix1 r) = Finset.univ.fold max (Ideal.ofBits .f32 0xFF800000#32) fun k : Fin 100000 => s (ix2 r k) :=
  max_apply _ s r

/-- A function of rows, spread along them and taken from an array, and the exponential of what is left. -/
theorem exp_sub_apply {n : ℕ} (h₁ : (⟨1, ![1024]⟩ : Shape).BroadcastsInDim ⟨2, ![1024, 1]⟩ ![0])
    (h₂ : (⟨2, ![1024, 1]⟩ : Shape).BroadcastsInDim ⟨2, ![1024, n]⟩ ![0, 1]) (s : FVec Ideal ⟨2, ![1024, n]⟩ .f32) (v : FVec Ideal ⟨1, ![1024]⟩ .f32)
    (r : Fin 1024) (k : Fin n) :
    Host.exp (subf s (broadcastInDim ⟨2, ![1024, n]⟩ ![0, 1] h₂ (broadcastInDim ⟨2, ![1024, 1]⟩ ![0] h₁ v))) (ix2 r k)
      = Ideal.exp (s (ix2 r k) - v (ix1 r)) := by
  pointwise

/-- The greatest similarity, read against minus infinity. -/
theorem floor_apply (w : FVec Ideal S1024 .f32) (r : Fin 1024) :
    maximumf (broadcastInDim S1024 ![] bcast_S_S1024 (constant S_ .f32 0xFF800000#32)) w (ix1 r) = max (Ideal.ofBits .f32 0xFF800000#32) (w (ix1 r)) := by
  pointwise

/-- An exponential is of the similarity less its row's greatest. -/
theorem exps_apply (s : FVec Ideal S1024x100000 .f32) (r : Fin 1024) (n : Fin 100000) :
    exps s (ix2 r n) = Ideal.exp (s (ix2 r n) - max (Ideal.ofBits .f32 0xFF800000#32) (rowMax s (ix1 r))) := by
  rw [← floor_apply]
  exact exp_sub_apply _ _ s _ r n

/-- A probability is the exponential over its row's sum. -/
theorem probs_apply (s : FVec Ideal S1024x100000 .f32) (r : Fin 1024) (n : Fin 100000) :
    probs s (ix2 r n) = Ideal.div (exps s (ix2 r n)) (∑ k : Fin 100000, exps s (ix2 r k)) := by
  pointwise [probs]

/-- The first word is minus the terms' sum over the number of rows, -/
theorem words_zero (v : FVec Ideal S1024 .f32) :
    words v (ix1 (0 : Fin 2)) = Ideal.div (-∑ r : Fin 1024, v (ix1 r)) (Ideal.ofBits .f32 0x44800000#32) := by
  pointwise [words]

/-- and the second is zero. -/
theorem words_one (v : FVec Ideal S1024 .f32) : words v (ix1 (1 : Fin 2)) = 0 := by
  pointwise [words]

/-- A word below `2 ^ 31` is not negative, so it is left as it is. -/
theorem wrap_word (w n : BitVec 32) (h : w.toNat < 2 ^ 31) : Scalar.select (IntOp.cmpi .slt w 0#32) (IntOp.addi w n) w = w := by
  rw [Scalar.select, if_neg]
  exact fun e => absurd ((StableHlo.Predicate.slt_iff_toNat h (by decide)).1 e) (by simp)

theorem wrapped_apply (ix : IVec S1024 32) (r : Fin 1024) (h : (ix (ix1 r)).toNat < 100000) : wrapped ix (ix1 r) = ix (ix1 r) := by
  pointwise [wrapped]
  exact wrap_word _ _ (by omega)

/-- A pair's first word is its row, -/
theorem pairs_zero (ix : IVec S1024 32) (r : Fin 1024) : pairs ix (ix2 r (0 : Fin 2)) = BitVec.ofNat 32 r.val := by
  pointwise [pairs]
  exact wrap_word _ _ (by rw [BitVec.toNat_ofNat]; omega)

/-- and its second the row's index. -/
theorem pairs_one (ix : IVec S1024 32) (r : Fin 1024) : pairs ix (ix2 r (1 : Fin 2)) = wrapped ix (ix1 r) := by
  pointwise [pairs]

/-- The gather at pairs reads the entry the pair names, each coordinate clamped. -/
theorem gather_pair {α : Type} (x : S1024x100000.Idx → α) (idx : IVec S1024x2 32) (r : Fin 1024) :
    Host.gather gather_S1024x100000_S1024x2_S1024_n_01_n_n_01_1_11 x idx (ix1 r)
      = x (ix2 ⟨min (idx (ix2 r (0 : Fin 2))).toInt.toNat 1023, by omega⟩ ⟨min (idx (ix2 r (1 : Fin 2))).toInt.toNat 99999, by omega⟩) := by
  let d := gather_S1024x100000_S1024x2_S1024_n_01_n_n_01_1_11
  have hs (c : Fin 2) : d.siIdx (ix1 r) c = ix2 r c := by
    funext b
    match b with
    | ⟨0, _⟩ =>
      unfold GatherDims.siIdx
      rw [dif_neg (show ¬(0 = d.indexVectorDim) by decide)]
      apply Fin.ext
      unfold GatherDims.siCoord
      have e : ∀ X : Fin 1, ((ix1 r : S1024.Idx) X).val = r.val := fun X => by
        obtain rfl : X = 0 := Subsingleton.elim _ _
        rfl
      exact e _
    | ⟨1, _⟩ =>
      unfold GatherDims.siIdx
      rw [dif_pos (show 1 = d.indexVectorDim from rfl)]
      rfl
  have hst (a : Fin 2) : d.start (ix1 r) idx a = min (idx (ix2 r a)).toInt.toNat (S1024x100000.size a - 1) := by
    have ha : a ∈ d.startIndexMap := by revert a; decide
    have hi : d.startIndexMap.idxOf a = a.val := by revert a; decide
    have h1 : d.sliceSizes a = 1 := by revert a; decide
    unfold GatherDims.start
    rw [dif_pos ha, h1]
    refine congrArg (fun q => min (idx q).toInt.toNat (S1024x100000.size a - 1)) ?_
    refine (hs _).trans (congrArg (ix2 r) (Fin.ext hi))
  have hz (a : Fin 2) : d.batchCoord (ix1 r) a = 0 ∧ d.offCoord (ix1 r) a = 0 :=
    ⟨d.batchCoord_eq_zero _ _ (by revert a; decide), d.offCoord_eq_zero _ _ (by revert a; decide)⟩
  unfold Host.gather
  congr 1
  funext a
  refine Fin.ext ((congrArg₂ (· + ·) (congrArg₂ (· + ·) (hst a) (hz a).1) (hz a).2).trans ?_)
  match a with
  | ⟨0, _⟩ => rfl
  | ⟨1, _⟩ => rfl

/-- A word below `2 ^ 31` read signed is its value. -/
theorem toInt_word (w : BitVec 32) (h : w.toNat < 2 ^ 31) : w.toInt.toNat = w.toNat := by
  rw [BitVec.toInt_eq_toNat_cond, if_pos (by omega)]; rfl

/-- Where the index names a row and every flag is negative, a row's term is the logarithm of the probability at its index. -/
theorem terms_apply (P : FVec Ideal S1024x100000 .f32) (ix : IVec S1024 32) (g : IVec S100000 32) (r : Fin 1024)
    (h : (ix (ix1 r)).toNat < 100000) (hg : ∀ j, IntOp.cmpi .slt (g j) 0#32 = 1#1) :
    terms P ix g (ix1 r) = Ideal.log (P (ix2 r ⟨(ix (ix1 r)).toNat, h⟩)) := by
  have e0 : min (pairs ix (ix2 r (0 : Fin 2))).toInt.toNat 1023 = r.val := by
    have := r.isLt
    rw [pairs_zero, toInt_word _ (by rw [BitVec.toNat_ofNat]; omega), BitVec.toNat_ofNat]; omega
  have e1 : min (pairs ix (ix2 r (1 : Fin 2))).toInt.toNat 99999 = (ix (ix1 r)).toNat := by
    rw [pairs_one, wrapped_apply ix r h, toInt_word _ (by omega)]; omega
  have e : (ix2 ⟨min (pairs ix (ix2 r (0 : Fin 2))).toInt.toNat 1023, by omega⟩ ⟨min (pairs ix (ix2 r (1 : Fin 2))).toInt.toNat 99999, by omega⟩ : S1024x100000.Idx)
      = ix2 r ⟨(ix (ix1 r)).toNat, h⟩ := congrArg₂ ix2 (Fin.ext e0) (Fin.ext e1)
  pointwise [terms, gather_pair]
  rw [Scalar.select, if_pos]
  · exact congrArg (fun j => Ideal.log (P j)) e
  · unfold Host.gather; exact hg _

end Cert.Proof.R

end
-- ==== Proof.Algebraic.lean ====
/-
  The kernel's loss is the reference's: at a positive temperature both are minus the mean over
  the rows of the similarity at the row's index less the logarithm of the exponentials' sum.
-/
module

public import proofs.«01_k».proof.Proof.Frames
public import proofs.«01_k».proof.Proof.KVal
public import proofs.«01_k».proof.Proof.RVal

@[expose] public section

noncomputable section

namespace Cert.Proof.K

open Idealize.ShloMosaic Idealize.ShloMosaic.Pointwise Idealize.SL.Sem

/-- So does the stronger one. -/
theorem preOK_posed (m : (ℓ : Loc Cert.KernelIdeal.nD Cert.KernelIdeal.τ Cert.KernelIdeal.sig) → Buf (Elt Ideal) ℓ)
    (h : Cert.Pre_KernelIdeal_well_posed m) : PreOK m := fun d j => (Pre.posed _ _ _ _ _ (h d)).1 j

/-- The idealization's frame under the stronger precondition. -/
theorem frame_ideal_posed : Cert.quiescent_KernelIdeal_pre_well_posed := fun m g h =>
  (θ_run _ _ _).mono (fun _ r => ⟨fun c => (r.1 c).1, r.2⟩) (run_main m g (preOK_posed m h))

/-- The reference's frame under the stronger precondition. -/
theorem frame_reference_posed : Cert.quiescent_ReferenceIdeal_pre_well_posed := fun m g _ =>
  (θ_run Cert.ReferenceIdeal.defs _ _).mono (fun r h => ⟨fun c => (h c).2, sem_eq_zero_of_no_sems (by decide) r.2⟩)
    (Cert.ReferenceIdeal.Value.run (F := Ideal) m g)

/-- The least norm is a positive real. -/
theorem least_norm : ∃ c : ℝ, 0 < c ∧ Ideal.ofBits .f32 0x2B8CBCCC#32 = (c : EReal) := by
  refine ⟨_, ?_, by simp [Ideal.ofBits, Ideal.ieee]; rfl⟩
  norm_num

theorem bits_bot : Ideal.ofBits .f32 0xFF800000#32 = ⊥ := by simp [Ideal.ofBits, Ideal.ieee]

/-- A number that compares greater than zero is positive. -/
theorem pos_of_cmp (a : EReal) (h : FloatOps.cmpf (F := Ideal) (φ := .f32) .ogt a (FloatOps.ofBits .f32 0x00000000#32) = 1#1) : 0 < a := by
  have h' : BitVec.ofBool (decide (Ideal.ofBits .f32 0x00000000#32 < a)) = 1#1 := h
  rw [Ideal.ofBits_zero_f32] at h'
  by_contra hn
  rw [decide_eq_false hn] at h'
  exact absurd h' (by decide)

open Cert.KernelIdeal

/-- The one index of the first parameter. -/
theorem one_word : (fun | 0 => (0 : Fin 2) : S2.Idx) = ix1 (0 : Fin 2) := funext fun | ⟨0, _⟩ => rfl

variable {c : Dev nD} (V : Cont Ideal c)

/-- One row of the loss: the kernel's target less its logarithm is the logarithm of the reference's probability. -/
theorem row_eq (x : Vec Ideal S100000x128 .f32) (hV : V main_arg2 = x) (z : Vec Ideal S1024x128 .f32) (hz : V main_arg0 = z)
    (p : Vec Ideal S2 .f32) (hp : V main_arg3 = p)
    (ht : 0 < p (ix1 (0 : Fin 2))) (r : Fin 1024) (i : Fin 100000) :
    (∑ k : Fin 128, zn V (ix2 r k) * x (ix2 i k)) - Ideal.log (∑ n ∈ Finset.range 100000, E (znb V) (V main_arg2) r n)
      = Ideal.log (R.probs (R.sims z x p) (ix2 r i)) := by
  obtain ⟨w, hw, hc⟩ := least_norm
  obtain ⟨u, hu⟩ := M.quot (fun k : Fin 128 => z (ix2 r k)) w hw
  generalize htt : p (ix1 (0 : Fin 2)) = t at ht
  -- the row's similarities
  let s (n : Fin 100000) : EReal := (∑ k : Fin 128, (u k : EReal) * x (ix2 n k)) * (M.recip t : EReal)
  have hs (n : Fin 100000) : R.sims z x p (ix2 r n) = s n := by
    rw [R.sims_apply, htt, M.div_eq t ht.ne']
    refine congrArg (· * (M.recip t : EReal)) (Finset.sum_congr rfl fun k _ => congrArg (· * x (ix2 n k)) (.trans ?_ (hu k).1))
    unfold R.norm; rw [hc]
  have hzn (k : Fin 128) : zn V (ix2 r k) = ((u k * M.recip t : ℝ) : EReal) := by
    unfold zn
    rw [hz, hp]
    refine (pay2_apply _ _ r k).trans (.trans ?_ ((hu k).2 t ht.ne'))
    have hword : word p = t := (congrArg p one_word).trans htt
    rw [hword]
    unfold norm; rw [hc]
  have htar (n : Fin 100000) : (∑ k : Fin 128, zn V (ix2 r k) * x (ix2 n k)) = s n := by
    refine .trans (Finset.sum_congr rfl fun k _ => ?_) (M.sum_mul _ _ _ (M.recip_nonneg t ht))
    rw [hzn, EReal.coe_mul, mul_right_comm]
  have hE (n : Fin 100000) : E (znb V) (V main_arg2) r n.val = Ideal.exp (s n) := by
    have hn : (⟨n.val % 100000, Nat.mod_lt _ (by decide)⟩ : Fin 100000) = n := Fin.ext (Nat.mod_eq_of_lt n.isLt)
    unfold E
    rw [← M.exp2_mul, hV, hn, ← htar, ← M.sum_mul _ _ _ (inv_pos.2 (Real.log_pos one_lt_two)).le]
    refine congrArg Ideal.exp2 (Finset.sum_congr rfl fun k _ => ?_)
    rw [mul_right_comm]
    exact congrArg (· * x (ix2 n k)) (pay3_apply _ _ r k)
  have hsum : ∑ n ∈ Finset.range 100000, E (znb V) (V main_arg2) r n = ∑ n : Fin 100000, Ideal.exp (s n) := by
    rw [Finset.sum_range]
    exact Finset.sum_congr rfl fun n _ => hE n
  have hmax : max (Ideal.ofBits .f32 0xFF800000#32) (R.rowMax (R.sims z x p) (ix1 r)) = Finset.univ.fold max ⊥ s := by
    rw [R.rowMax_apply, bits_bot, max_eq_right bot_le]
    simp only [hs]
  have hexp (n : Fin 100000) : R.exps (R.sims z x p) (ix2 r n) = Ideal.exp (s n - Finset.univ.fold max ⊥ s) := by
    rw [R.exps_apply, hmax, hs]
  rw [R.probs_apply]
  simp only [hexp]
  rw [M.log_softmax s i, htar, hsum]

omit V in
/-- The kernel's two words are the reference's, whatever lies past the bank's end. -/
theorem value_eq (m : (ℓ : Loc nD τ sig) → Buf (Elt Ideal) ℓ) (c : Dev nD) (d : Vec Ideal S2048x128 .f32)
    (z : Vec Ideal S1024x128 .f32) (hz : m (zLoc c) = z) (ix : IVec S1024 32) (hi : m (iLoc c) = ix) (x : Vec Ideal S100000x128 .f32) (hx : m (xLoc c) = x)
    (p : Vec Ideal S2 .f32) (hp : m (pLoc c) = p) (g : IVec S100000 32)
    (hix : ∀ j, (ix j).toNat < 100000) (hg : ∀ j, IntOp.cmpi .slt (g j) 0#32 = 1#1) (ht : 0 < p (ix1 (0 : Fin 2))) :
    result c (outAt (V2 m c) d) = R.words (R.terms (R.probs (R.sims z x p)) ix g) := by
  have h2 {b : Ref sig .tc} (h : b ≠ main_v1 ∧ b ≠ main_v0_0 ∧ b ≠ main_v0_1 ∧ b ≠ main_v0_2) : V2 m c b = V0 m c b := by
    rw [V2_ne m c h.1, V1_ne m c h.2]
  have hout : outAt (V2 m c) d = outVec (znb (V0 m c)) (tailOf (V0 m c main_arg2) d) (accAt (V0 m c) 5) (zn (V0 m c)) (gathered m c) := by
    unfold outAt
    rw [V2_rows, V2_ne m c (show main_v0_0 ≠ main_v1 by decide), V2_ne m c (show main_v0_1 ≠ main_v1 by decide),
      V2_ne m c (show main_v0_2 ≠ main_v1 by decide), V1_acc, V1_zn, V1_znb, h2 (b := main_arg2) (by decide)]
  have hrow (r : Fin 1024) (k : Fin 128) : gathered m c (ix2 r k) = x (ix2 (⟨(ix (ix1 r)).toNat, hix _⟩ : Fin 100000) k) := by
    have e : (fun | 0 => r : S1024.Idx) = ix1 r := funext fun | ⟨0, _⟩ => rfl
    unfold gathered
    rw [hx, hi]
    refine congrArg x (funext fun (a : Fin 2) => ?_)
    match a with
    | 0 => exact Fin.ext ((congrArg (fun q => (ix q).toNat % 100000) e).trans (Nat.mod_eq_of_lt (hix _)))
    | 1 => rfl
  have hres (i : Fin 2) : result c (outAt (V2 m c) d) (ix1 i) = outAt (V2 m c) d (ix2 (0 : Fin 1) i) := by
    pointwise [result]
  funext (j : S2.Idx)
  obtain ⟨i, rfl⟩ : ∃ i : Fin 2, j = ix1 i := ⟨j 0, funext fun | ⟨0, _⟩ => rfl⟩
  rw [hres, hout]
  match i with
  | 0 =>
    rw [R.words_zero]
    refine (loss_eq (V0 m c) d (gathered m c)).trans (congrArg (fun q => Ideal.div (-q) _) (Finset.sum_congr rfl fun r _ => ?_))
    rw [R.terms_apply _ ix g r (hix _) hg, ← row_eq (V0 m c) x hx z hz p hp ht r]
    simp only [hrow]
  | 1 =>
    rw [R.words_one]
    exact Ideal.ofBits_zero_f32

/-- The value claim: from memories that agree on the arguments, well posed, the kernel's idealization and the reference end with
    equal results. -/
theorem algebraic : Cert.algebraic_KernelIdeal_ReferenceIdeal_pre_well_posed := by
  intro m g m' g' hpre hagree
  refine ⟨fun c => Cert.ReferenceIdeal.Value.res_out0 m' c, ?_, ?_⟩
  · refine (θ_run _ _ _).mono (fun r h c => ?_) (run_main m g (preOK_posed m hpre))
    obtain ⟨ha, d, hd⟩ := h.1 c
    refine ⟨hd.trans ?_, ha⟩
    obtain ⟨hi, hg, ht⟩ := Pre.posed _ _ _ _ _ (hpre c)
    obtain ⟨e0, e1, e2, e3, e4⟩ := hagree c
    show _ = Cert.ReferenceIdeal.Value.res_out0 m' c
    rw [R.res_eq, e0, e1, e2, e3, e4]
    refine value_eq m c d _ rfl _ rfl _ rfl _ rfl _ hi hg ?_
    exact (pos_of_cmp _ ht).trans_eq (congrArg (m (pLoc c)) one_word)
  · exact (θ_run Cert.ReferenceIdeal.defs _ _).mono (fun r h c => h c) (Cert.ReferenceIdeal.Value.run (F := Ideal) m' g')

end Cert.Proof.K

end
-- ==== Proof.lean ====
/-
  The certificate's claim, put together from the modules under Proof/.
-/
module

public import proofs.«01_k».proof.Defs
public import proofs.«01_k».proof.Proof.Algebraic

@[expose] public section

noncomputable section

namespace Cert.Proof

/-- The frames of the kernel, its idealization and the reference, the idealization's justification, and the equality of the
    idealization's result with the reference's. -/
theorem claim : Cert.Claim :=
  ⟨Cert.Kernel.Gen.facts, Cert.KernelIdeal.Gen.facts, Cert.ReferenceIdeal.Gen.facts, Pre.range_facts, Pre.posed_facts,
    K.frame_kernel, K.frame_ideal, K.frame_ideal_posed, K.frame_reference, K.frame_reference_posed, K.preserves, K.algebraic⟩

end Cert.Proof

end
